-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x384x2560 : Shape := ⟨3, ![24, 384, 2560]⟩
abbrev S_ : Shape := ⟨0, ![]⟩
abbrev S10240x2560 : Shape := ⟨2, ![10240, 2560]⟩
abbrev S10240 : Shape := ⟨1, ![10240]⟩
abbrev S1 : Shape := ⟨1, ![1]⟩
abbrev S9216x2560 : Shape := ⟨2, ![9216, 2560]⟩
abbrev S1x10240 : Shape := ⟨2, ![1, 10240]⟩
abbrev S9216x10240 : Shape := ⟨2, ![9216, 10240]⟩
abbrev S512x2560 : Shape := ⟨2, ![512, 2560]⟩
abbrev S1x512 : Shape := ⟨2, ![1, 512]⟩
abbrev S512x512 : Shape := ⟨2, ![512, 512]⟩
abbrev S9216x128 : Shape := ⟨2, ![9216, 128]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S1x1x512 : Shape := ⟨3, ![1, 1, 512]⟩
abbrev S1x1x1 : Shape := ⟨3, ![1, 1, 1]⟩
abbrev S256x1024 : Shape := ⟨2, ![256, 1024]⟩
abbrev S512x1024 : Shape := ⟨2, ![512, 1024]⟩
abbrev S256x512 : Shape := ⟨2, ![256, 512]⟩
abbrev S256x128 : Shape := ⟨2, ![256, 128]⟩
abbrev S24x384x10240 : Shape := ⟨3, ![24, 384, 10240]⟩

abbrev nBuf : Space → Nat
  | .hbm => 17
  | .vmem => 19
  | .smem => 3
  | _ => 0

abbrev bufTy : (tb : Table) → Fin (tcTables nBuf tb) → BufTy
  | .hbm, ⟨0, _⟩ => ⟨S24x384x2560, .i8⟩
  | .hbm, ⟨1, _⟩ => ⟨S_, .i32⟩
  | .hbm, ⟨2, _⟩ => ⟨S10240x2560, .i8⟩
  | .hbm, ⟨3, _⟩ => ⟨S10240, .i32⟩
  | .hbm, ⟨4, _⟩ => ⟨S10240, .i32⟩
  | .hbm, ⟨5, _⟩ => ⟨S10240, .i32⟩
  | .hbm, ⟨6, _⟩ => ⟨S10240, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S9216x2560, .i8⟩
  | .hbm, ⟨11, _⟩ => ⟨S1x10240, .i32⟩
  | .hbm, ⟨12, _⟩ => ⟨S1x10240, .i32⟩
  | .hbm, ⟨13, _⟩ => ⟨S1x10240, .i32⟩
  | .hbm, ⟨14, _⟩ => ⟨S1x10240, .i32⟩
  | .hbm, ⟨15, _⟩ => ⟨S9216x10240, .i8⟩
  | .hbm, ⟨16, _⟩ => ⟨S24x384x10240, .i8⟩
  | .local _ .vmem, ⟨0, _⟩ => ⟨S512x2560, .i8⟩
  | .local _ .vmem, ⟨1, _⟩ => ⟨S512x2560, .i8⟩
  | .local _ .vmem, ⟨2, _⟩ => ⟨S512x2560, .i8⟩
  | .local _ .vmem, ⟨3, _⟩ => ⟨S512x2560, .i8⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1x512, .i32⟩
  | .local _ .vmem, ⟨12, _⟩ => ⟨S512x512, .i8⟩
  | .local _ .vmem, ⟨13, _⟩ => ⟨S512x512, .i8⟩
  | .local _ .vmem, ⟨14, _⟩ => ⟨S9216x2560, .bf16⟩
  | .local _ .vmem, ⟨15, _⟩ => ⟨S9216x128, .i32⟩
  | .local _ .vmem, ⟨16, _⟩ => ⟨S512x2560, .bf16⟩
  | .local _ .vmem, ⟨17, _⟩ => ⟨S8x512, .i32⟩
  | .local _ .vmem, ⟨18, _⟩ => ⟨S8x512, .f32⟩
  | .local _ .smem, ⟨0, _⟩ => ⟨S1, .i32⟩
  | .local _ .smem, ⟨1, _⟩ => ⟨S1, .i32⟩
  | .local _ .smem, ⟨2, _⟩ => ⟨S1, .i32⟩
  | _, _ => ⟨S24x384x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 0, rfl⟩
abbrev cc0_stg1_0 : Ref sig .tc := ⟨.smem, 1, rfl⟩
abbrev cc0_scratch5 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![20, 18], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v22 : Index := Scalar.indexCast v1
  let c0_9 : Index := 0#32
  ![v22.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v30 : Index := Scalar.indexCast v1
  let c0_10 : Index := 0#32
  ![v30.toNat, 0]
def k0_mult2 (i : grid0.Coords) : BitVec 32 :=
  let arg1 : BitVec 32 := BitVec.ofNat 32 (i 1).val
  let c512_i32_7 : BitVec 32 := 512#32
  let v16 : BitVec 32 := Scalar.muli arg1 c512_i32_7
  let c0_i32_8 : BitVec 32 := 0#32
  let v17 : BitVec 32 := Scalar.addi v16 c0_i32_8
  v17
def k0_off3 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v19 : Index := Scalar.indexCast v18
  let c0_9 : Index := 0#32
  ![v19.toNat, 0]
def k0_off4 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v25 : Index := Scalar.indexCast v18
  let c1024 : Index := 1024#32
  ![v25.toNat, 1024]
def k0_off5 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v32 : Index := Scalar.indexCast v18
  let c2048 : Index := 2048#32
  ![v32.toNat, 2048]
def k0_off6 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v39 : Index := Scalar.indexCast v18
  let c0_18 : Index := 0#32
  ![v39.toNat, 0]
def k0_mult3 (i : grid0.Coords) : BitVec 32 :=
  let arg1 : BitVec 32 := BitVec.ofNat 32 (i 1).val
  let c512_i32_36 : BitVec 32 := 512#32
  let v85 : BitVec 32 := Scalar.muli arg1 c512_i32_36
  let c256_i32 : BitVec 32 := 256#32
  let v86 : BitVec 32 := Scalar.addi v85 c256_i32
  v86
def k0_mult4 (i : grid0.Coords) : BitVec 32 :=
  let arg1 : BitVec 32 := BitVec.ofNat 32 (i 1).val
  let c512_i32_7 : BitVec 32 := 512#32
  let v16 : BitVec 32 := Scalar.muli arg1 c512_i32_7
  let c0_i32_8 : BitVec 32 := 0#32
  let v17 : BitVec 32 := Scalar.addi v16 c0_i32_8
  v17
def k0_off7 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v19 : Index := Scalar.indexCast v18
  let c0_9 : Index := 0#32
  ![v19.toNat, 0]
def k0_off8 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v25 : Index := Scalar.indexCast v18
  let c1024 : Index := 1024#32
  ![v25.toNat, 1024]
def k0_off9 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v32 : Index := Scalar.indexCast v18
  let c2048 : Index := 2048#32
  ![v32.toNat, 2048]
def k0_off10 (i : grid0.Coords) (c0_i32_8 : BitVec 32) : Fin 2 → Nat :=
  let arg1 : BitVec 32 := BitVec.ofNat 32 (i 1).val
  let c512_i32_7 : BitVec 32 := 512#32
  let v16 : BitVec 32 := Scalar.muli arg1 c512_i32_7
  let v17 : BitVec 32 := Scalar.addi v16 c0_i32_8
  let v18 : BitVec 32 := v17
  let v39 : Index := Scalar.indexCast v18
  let c0_18 : Index := 0#32
  ![v39.toNat, 0]
def k0_mult5 (i : grid0.Coords) : BitVec 32 :=
  let arg1 : BitVec 32 := BitVec.ofNat 32 (i 1).val
  let c512_i32_52 : BitVec 32 := 512#32
  let v153 : BitVec 32 := Scalar.muli arg1 c512_i32_52
  let c256_i32 : BitVec 32 := 256#32
  let v154 : BitVec 32 := Scalar.addi v153 c256_i32
  v154
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c17_i32 : BitVec 32 := 17#32
  let v1 : BitVec 32 := Scalar.select v0 arg1 c17_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S24x384x2560 : Shape := ⟨3, ![24, 384, 2560]⟩
abbrev S_ : Shape := ⟨0, ![]⟩
abbrev S10240x2560 : Shape := ⟨2, ![10240, 2560]⟩
abbrev S10240 : Shape := ⟨1, ![10240]⟩
abbrev S9216x2560 : Shape := ⟨2, ![9216, 2560]⟩
abbrev S9216x1x2560 : Shape := ⟨3, ![9216, 1, 2560]⟩
abbrev S1x10240x2560 : Shape := ⟨3, ![1, 10240, 2560]⟩
abbrev S9216x10240x2560 : Shape := ⟨3, ![9216, 10240, 2560]⟩
abbrev S9216x10240 : Shape := ⟨2, ![9216, 10240]⟩
abbrev S9216 : Shape := ⟨1, ![9216]⟩
abbrev S1x10240 : Shape := ⟨2, ![1, 10240]⟩
abbrev S9216x1 : Shape := ⟨2, ![9216, 1]⟩
abbrev S24x384x10240 : Shape := ⟨3, ![24, 384, 10240]⟩

abbrev nBuf : Space → Nat
  | .hbm => 151
  | .vmem => 0
  | .smem => 0
  | _ => 0

abbrev hbmTy0_0 (i : Nat) : BufTy := match i % 128 with
  | 0 => ⟨S24x384x2560, .i8⟩
  | 1 => ⟨S_, .i32⟩
  | 2 => ⟨S10240x2560, .i8⟩
  | 3 => ⟨S10240, .i32⟩
  | 4 => ⟨S10240, .i32⟩
  | 5 => ⟨S10240, .i32⟩
  | 6 => ⟨S10240, .i32⟩
  | 7 => ⟨S_, .i32⟩
  | 8 => ⟨S9216x2560, .i8⟩
  | 9 => ⟨S9216x2560, .i32⟩
  | 10 => ⟨S9216x1x2560, .i32⟩
  | 11 => ⟨S10240x2560, .i32⟩
  | 12 => ⟨S1x10240x2560, .i32⟩
  | 13 => ⟨S9216x10240x2560, .i32⟩
  | 14 => ⟨S9216x10240x2560, .i32⟩
  | 15 => ⟨S9216x10240x2560, .i32⟩
  | 16 => ⟨S_, .i32⟩
  | 17 => ⟨S9216x10240, .i32⟩
  | 18 => ⟨S9216x2560, .i32⟩
  | 19 => ⟨S_, .i32⟩
  | 20 => ⟨S9216, .i32⟩
  | 21 => ⟨S10240x2560, .i32⟩
  | 22 => ⟨S_, .i32⟩
  | 23 => ⟨S10240, .i32⟩
  | 24 => ⟨S_, .i32⟩
  | 25 => ⟨S_, .i32⟩
  | 26 => ⟨S10240, .i32⟩
  | 27 => ⟨S10240, .i32⟩
  | 28 => ⟨S10240, .i32⟩
  | 29 => ⟨S10240, .i32⟩
  | 30 => ⟨S10240, .i32⟩
  | 31 => ⟨S10240, .i32⟩
  | 32 => ⟨S1x10240, .i32⟩
  | 33 => ⟨S9216x1, .i32⟩
  | 34 => ⟨S9216x10240, .i32⟩
  | 35 => ⟨S9216x10240, .i32⟩
  | 36 => ⟨S9216x10240, .i32⟩
  | 37 => ⟨S9216x10240, .i32⟩
  | 38 => ⟨S1x10240, .i32⟩
  | 39 => ⟨S9216x10240, .i32⟩
  | 40 => ⟨S9216x10240, .i32⟩
  | 41 => ⟨S_, .i32⟩
  | 42 => ⟨S9216x10240, .i32⟩
  | 43 => ⟨S9216x10240, .i1⟩
  | 44 => ⟨S9216x10240, .i32⟩
  | 45 => ⟨S9216x10240, .i32⟩
  | 46 => ⟨S10240, .i32⟩
  | 47 => ⟨S_, .i32⟩
  | 48 => ⟨S10240, .i32⟩
  | 49 => ⟨S10240, .i32⟩
  | 50 => ⟨S_, .i32⟩
  | 51 => ⟨S10240, .i32⟩
  | 52 => ⟨S10240, .i32⟩
  | 53 => ⟨S_, .i32⟩
  | 54 => ⟨S_, .i32⟩
  | 55 => ⟨S9216x10240, .i32⟩
  | 56 => ⟨S9216x10240, .i32⟩
  | 57 => ⟨S9216x10240, .i32⟩
  | 58 => ⟨S_, .i32⟩
  | 59 => ⟨S9216x10240, .i32⟩
  | 60 => ⟨S9216x10240, .i32⟩
  | 61 => ⟨S_, .i32⟩
  | 62 => ⟨S9216x10240, .i32⟩
  | 63 => ⟨S9216x10240, .i32⟩
  | 64 => ⟨S1x10240, .i32⟩
  | 65 => ⟨S9216x10240, .i32⟩
  | 66 => ⟨S9216x10240, .i32⟩
  | 67 => ⟨S1x10240, .i32⟩
  | 68 => ⟨S9216x10240, .i32⟩
  | 69 => ⟨S9216x10240, .i32⟩
  | 70 => ⟨S1x10240, .i32⟩
  | 71 => ⟨S9216x10240, .i32⟩
  | 72 => ⟨S9216x10240, .i32⟩
  | 73 => ⟨S9216x10240, .i32⟩
  | 74 => ⟨S1x10240, .i32⟩
  | 75 => ⟨S9216x10240, .i32⟩
  | 76 => ⟨S9216x10240, .i32⟩
  | 77 => ⟨S_, .i32⟩
  | 78 => ⟨S9216x10240, .i32⟩
  | 79 => ⟨S9216x10240, .i32⟩
  | 80 => ⟨S_, .i32⟩
  | 81 => ⟨S9216x10240, .i32⟩
  | 82 => ⟨S9216x10240, .i32⟩
  | 83 => ⟨S9216x10240, .i32⟩
  | 84 => ⟨S_, .i32⟩
  | 85 => ⟨S9216x10240, .i32⟩
  | 86 => ⟨S9216x10240, .i32⟩
  | 87 => ⟨S_, .i32⟩
  | 88 => ⟨S9216x10240, .i32⟩
  | 89 => ⟨S9216x10240, .i32⟩
  | 90 => ⟨S_, .i32⟩
  | 91 => ⟨S9216x10240, .i32⟩
  | 92 => ⟨S9216x10240, .i32⟩
  | 93 => ⟨S9216x10240, .i32⟩
  | 94 => ⟨S_, .i32⟩
  | 95 => ⟨S9216x10240, .i32⟩
  | 96 => ⟨S9216x10240, .i32⟩
  | 97 => ⟨S9216x10240, .i32⟩
  | 98 => ⟨S_, .i32⟩
  | 99 => ⟨S9216x10240, .i32⟩
  | 100 => ⟨S9216x10240, .i32⟩
  | 101 => ⟨S9216x10240, .i32⟩
  | 102 => ⟨S9216x10240, .i32⟩
  | 103 => ⟨S9216x10240, .i1⟩
  | 104 => ⟨S9216x10240, .i32⟩
  | 105 => ⟨S9216x10240, .i32⟩
  | 106 => ⟨S_, .i32⟩
  | 107 => ⟨S9216x10240, .i32⟩
  | 108 => ⟨S9216x10240, .i32⟩
  | 109 => ⟨S_, .i32⟩
  | 110 => ⟨S9216x10240, .i32⟩
  | 111 => ⟨S9216x10240, .i32⟩
  | 112 => ⟨S9216x10240, .i32⟩
  | 113 => ⟨S9216x10240, .i32⟩
  | 114 => ⟨S9216x10240, .i32⟩
  | 115 => ⟨S9216x10240, .i32⟩
  | 116 => ⟨S1x10240, .i32⟩
  | 117 => ⟨S_, .i32⟩
  | 118 => ⟨S1x10240, .i32⟩
  | 119 => ⟨S1x10240, .i32⟩
  | 120 => ⟨S_, .i32⟩
  | 121 => ⟨S1x10240, .i32⟩
  | 122 => ⟨S1x10240, .i32⟩
  | 123 => ⟨S9216x10240, .i32⟩
  | 124 => ⟨S9216x10240, .i32⟩
  | 125 => ⟨S_, .i32⟩
  | 126 => ⟨S1x10240, .i32⟩
  | 127 => ⟨S1x10240, .i32⟩
  | _ => ⟨S24x384x2560, .i8⟩

abbrev hbmTy0_1 (i : Nat) : BufTy := match i % 128 with
  | 0 => ⟨S_, .i32⟩
  | 1 => ⟨S9216x10240, .i32⟩
  | 2 => ⟨S9216x10240, .i1⟩
  | 3 => ⟨S9216x10240, .i32⟩
  | 4 => ⟨S9216x10240, .i32⟩
  | 5 => ⟨S9216x10240, .i32⟩
  | 6 => ⟨S9216x10240, .i32⟩
  | 7 => ⟨S9216x10240, .i32⟩
  | 8 => ⟨S9216x10240, .i1⟩
  | 9 => ⟨S9216x10240, .i32⟩
  | 10 => ⟨S9216x10240, .i32⟩
  | 11 => ⟨S9216x10240, .i32⟩
  | 12 => ⟨S9216x10240, .i32⟩
  | 13 => ⟨S_, .i32⟩
  | 14 => ⟨S_, .i32⟩
  | 15 => ⟨S_, .i32⟩
  | 16 => ⟨S9216x10240, .i32⟩
  | 17 => ⟨S9216x10240, .i32⟩
  | 18 => ⟨S_, .i32⟩
  | 19 => ⟨S9216x10240, .i32⟩
  | 20 => ⟨S9216x10240, .i32⟩
  | 21 => ⟨S9216x10240, .i8⟩
  | 22 => ⟨S24x384x10240, .i8⟩
  | _ => ⟨S24x384x2560, .i8⟩

abbrev hbmTy (i : Nat) : BufTy := match i / 128 with
  | 0 => hbmTy0_0 i
  | 1 => hbmTy0_1 i
  | _ => ⟨S24x384x2560, .i8⟩

abbrev bufTy : (tb : Table) → Fin (tcTables nBuf tb) → BufTy
  | .hbm, ⟨i, _⟩ => hbmTy i
  | _, _ => ⟨S24x384x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_c_7 : Ref sig .tc := ⟨.hbm, 54, rfl⟩
abbrev main_call0_v0 : Ref sig .tc := ⟨.hbm, 55, rfl⟩
abbrev main_call0_v1 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_17 : Ref sig .tc := ⟨.hbm, 106, rfl⟩
abbrev main_v78 : Ref sig .tc := ⟨.hbm, 107, rfl⟩
abbrev main_v79 : Ref sig .tc := ⟨.hbm, 108, rfl⟩
abbrev main_c_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_19 : Ref sig .tc := ⟨.hbm, 117, rfl⟩
abbrev main_v87 : Ref sig .tc := ⟨.hbm, 118, rfl⟩
abbrev main_v88 : Ref sig .tc := ⟨.hbm, 119, rfl⟩
abbrev main_c_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_21 : Ref sig .tc := ⟨.hbm, 125, rfl⟩
abbrev main_v93 : Ref sig .tc := ⟨.hbm, 126, rfl⟩
abbrev main_v94 : Ref sig .tc := ⟨.hbm, 127, rfl⟩
abbrev main_c_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_23 : Ref sig .tc := ⟨.hbm, 141, rfl⟩
abbrev main_c_24 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]
-- ==== Proof.KernelBody.lean ====
module

public import proofs.«01_k».proof.Proof.Gen.Kernel.Frame
public import proofs.«01_k».proof.Proof.Gen.Kernel.Skeleton
public import Idealize.ShloMosaic.Lib.VecWindow
public import Idealize.ShloMosaic.Lib.Tactic

@[expose] public section

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body's programs. -/
abbrev PP (F : FTy → Type) : Type 1 := Prog (TpuEff nD τ sig (Elt F) Λ₀ .tc) PUnit.{1}

/-! ## What the stages store, as functions of what the buffers hold -/

/-- The only index of a one-element vector. -/
abbrev z1 : S1.Idx := Shape.Idx.first (by decide)

/-- The parameters the column-block set-up computes from one block of each operand, in the order the kernel computes them. -/
def parA (X2 : Vec F S1 .i32) (X5 : Vec F S512x2560 .i8) (X6 X7 : Vec F S1x512 .i32) : IVec S1x512 32 :=
  k0_pay17 X5 (X2 z1) X6 X7
def parC0 (X3 : Vec F S1 .i32) (X8 X9 : Vec F S1x512 .i32) : IVec S1x512 32 :=
  k0_pay25 (X3 z1) (k0_pay14 X8) (k0_pay20 (k0_pay15 X9)) (k0_pay22 (k0_pay15 X9))

/-- The 8-row integer parameter buffer after the set-up: rows 0 to 6 stored, row 7 as it was. -/
def ipOf (X2 X3 : Vec F S1 .i32) (X5 : Vec F S512x2560 .i8) (X6 X7 X8 X9 : Vec F S1x512 .i32) (old : Vec F S8x512 .i32) : Vec F S8x512 .i32 :=
  VecWindow.put (VecWindow.put (VecWindow.put (VecWindow.put (VecWindow.put (VecWindow.put (VecWindow.put old
    ![0, 0] S1x512.size (k0_pay26 (k0_pay16 X6)))
    ![1, 0] S1x512.size (k0_pay27 (X3 z1) (k0_pay14 X8) (parA X2 X5 X6 X7) (k0_pay22 (k0_pay15 X9))))
    ![2, 0] S1x512.size (k0_pay28 (X3 z1) (k0_pay14 X8) (k0_pay22 (k0_pay15 X9))))
    ![3, 0] S1x512.size (k0_pay29 (k0_pay14 X8)))
    ![4, 0] S1x512.size (k0_pay30 (X3 z1) (k0_pay14 X8) (k0_pay20 (k0_pay15 X9)) (k0_pay22 (k0_pay15 X9))))
    ![5, 0] S1x512.size (k0_pay4 (parC0 X3 X8 X9)))
    ![6, 0] S1x512.size (k0_pay5 (parA X2 X5 X6 X7))

/-- The 8-row float parameter buffer after the set-up: rows 0 to 2 stored, the rest as it was. -/
def fpOf (X3 : Vec F S1 .i32) (X8 X9 : Vec F S1x512 .i32) (old : Vec F S8x512 .f32) : Vec F S8x512 .f32 :=
  VecWindow.put (VecWindow.put (VecWindow.put old
    ![0, 0] S1x512.size (k0_pay6 (k0_pay21 (k0_pay15 X9)) (k0_pay23 (k0_pay14 X8))))
    ![1, 0] S1x512.size (k0_pay7 (k0_pay21 (k0_pay15 X9))))
    ![2, 0] S1x512.size (k0_pay8 (k0_pay21 (k0_pay15 X9)) (parC0 X3 X8 X9))

/-- The flag the set-up stores, as a bit: every column of the block and both scalar zero points are in the fast path's range. -/
def flagOf (X2 X3 : Vec F S1 .i32) (X6 X7 X8 X9 : Vec F S1x512 .i32) : BitVec 1 :=
  Scalar.andi (Scalar.andi (Scalar.andi (Scalar.andi
    (Scalar.cmpi .eq (extractAt ![0, 0, 0] (k0_pay19 (k0_pay12 X6) (k0_pay13 X7) (k0_pay14 X8) (k0_pay15 X9) (k0_pay18 X9)) inpos_S1x1x1_p0_0_0) 1#32)
    (Scalar.cmpi .sge (X2 z1) 0#32)) (Scalar.cmpi .sle (X2 z1) 255#32))
    (Scalar.cmpi .sge (X3 z1) 0#32)) (Scalar.cmpi .sle (X3 z1) 255#32)

/-- A unit-stride window of `X`. -/
abbrev win {S : Shape} {e : EltTy} (X : Vec F S e) (off size : Fin S.rank → ℕ) (inb : ∀ a, off a + size a ≤ S.size a) :
    (Rect.unit off size inb).shape.Idx → Elt F e := View.ld (Val := Elt F) X (Rect.unit off size inb)

/-- The fast path's first 256 rows at grid point `i`. -/
def fastLo (i : grid0.Coords) (X11 : Vec F S9216x2560 .bf16) (X12 : Vec F S9216x128 .i32) (X13 : Vec F S512x2560 .bf16)
    (X14 : Vec F S8x512 .i32) (X15 : Vec F S8x512 .f32) : IVec S256x512 8 :=
  k0_pay33
    (k0_pay31 (win X11 (k0_off3 i 0#32) S256x1024.size (k0_off3_inb i 0)) (win X13 ![0, 0] S512x1024.size inb_S512x2560_S512x1024_0_0)
      (win X11 (k0_off4 i 0#32) S256x1024.size (k0_off4_inb i 0)) (win X13 ![0, 1024] S512x1024.size inb_S512x2560_S512x1024_0_1024)
      (win X11 (k0_off5 i 0#32) S256x512.size (k0_off5_inb i 0)) (win X13 ![0, 2048] S512x512.size inb_S512x2560_S512x512_0_2048)
      (win X12 (k0_off6 i 0#32) S256x128.size (k0_off6_inb i 0)) (win X14 ![0, 0] S1x512.size inb_S8x512_S1x512_0_0) (win X14 ![1, 0] S1x512.size inb_S8x512_S1x512_1_0))
    (k0_pay32 (win X11 (k0_off3 i 0#32) S256x1024.size (k0_off3_inb i 0)) (win X13 ![0, 0] S512x1024.size inb_S512x2560_S512x1024_0_0)
      (win X11 (k0_off4 i 0#32) S256x1024.size (k0_off4_inb i 0)) (win X13 ![0, 1024] S512x1024.size inb_S512x2560_S512x1024_0_1024)
      (win X11 (k0_off5 i 0#32) S256x512.size (k0_off5_inb i 0)) (win X13 ![0, 2048] S512x512.size inb_S512x2560_S512x512_0_2048)
      (win X12 (k0_off6 i 0#32) S256x128.size (k0_off6_inb i 0)) (win X14 ![0, 0] S1x512.size inb_S8x512_S1x512_0_0) (win X14 ![1, 0] S1x512.size inb_S8x512_S1x512_1_0)
      (win X14 ![3, 0] S1x512.size inb_S8x512_S1x512_3_0))
    (win X14 ![2, 0] S1x512.size inb_S8x512_S1x512_2_0) (win X14 ![4, 0] S1x512.size inb_S8x512_S1x512_4_0) (win X14 ![5, 0] S1x512.size inb_S8x512_S1x512_5_0)
    (win X15 ![0, 0] S1x512.size inb_S8x512_S1x512_0_0) (win X15 ![1, 0] S1x512.size inb_S8x512_S1x512_1_0) (win X15 ![2, 0] S1x512.size inb_S8x512_S1x512_2_0)

/-- The fast path's last 256 rows at grid point `i`. -/
def fastHi (i : grid0.Coords) (X11 : Vec F S9216x2560 .bf16) (X12 : Vec F S9216x128 .i32) (X13 : Vec F S512x2560 .bf16)
    (X14 : Vec F S8x512 .i32) (X15 : Vec F S8x512 .f32) : IVec S256x512 8 :=
  k0_pay9
    (k0_pay34 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0))
    (k0_pay35 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0)
      (win X14 ![3, 0] S1x512.size inb_S8x512_S1x512_3_0))
    (k0_pay36 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0)
      (win X14 ![2, 0] S1x512.size inb_S8x512_S1x512_2_0))
    (k0_pay37 (win X14 ![4, 0] S1x512.size inb_S8x512_S1x512_4_0)) (k0_pay38 (win X14 ![5, 0] S1x512.size inb_S8x512_S1x512_5_0))
    (win X15 ![0, 0] S1x512.size inb_S8x512_S1x512_0_0) (win X15 ![1, 0] S1x512.size inb_S8x512_S1x512_1_0) (win X15 ![2, 0] S1x512.size inb_S8x512_S1x512_2_0)

/-- The exact path's accumulator, first 256 rows at grid point `i`. -/
def slowAcc (i : grid0.Coords) (X11 : Vec F S9216x2560 .bf16) (X12 : Vec F S9216x128 .i32) (X13 : Vec F S512x2560 .bf16)
    (X14 : Vec F S8x512 .i32) : IVec S256x512 32 :=
  k0_pay39 (win X11 (k0_off7 i 0#32) S256x1024.size (k0_off7_inb i 0)) (win X13 ![0, 0] S512x1024.size inb_S512x2560_S512x1024_0_0)
    (win X11 (k0_off8 i 0#32) S256x1024.size (k0_off8_inb i 0)) (win X13 ![0, 1024] S512x1024.size inb_S512x2560_S512x1024_0_1024)
    (win X11 (k0_off9 i 0#32) S256x512.size (k0_off9_inb i 0)) (win X13 ![0, 2048] S512x512.size inb_S512x2560_S512x512_0_2048)
    (win X12 (k0_off10 i 0#32) S256x128.size (k0_off10_inb i 0)) (win X14 ![0, 0] S1x512.size inb_S8x512_S1x512_0_0) (win X14 ![6, 0] S1x512.size inb_S8x512_S1x512_6_0)

/-- The exact path's requantization of an accumulator block, first 256 rows: multiplier `v50`, shift `v52`, zero point `v53`. -/
def slowLoR (v48 : IVec S256x512 32) (v50 v52 : IVec S1x512 32) (v53 : Elt F .i32) : IVec S256x512 8 :=
  k0_pay59 v53
    (k0_pay57 v52 (k0_pay42 v48) (k0_pay46 v48) (k0_pay52 v48 v50) (k0_pay53 v48 v50))
    (k0_pay58 v52 (k0_pay42 v48) (k0_pay46 v48) (k0_pay52 v48 v50) (k0_pay53 v48 v50))

/-- The exact path's first 256 rows at grid point `i`. -/
def slowLo (i : grid0.Coords) (X3 : Vec F S1 .i32) (X8 X9 : Vec F S1x512 .i32) (X11 : Vec F S9216x2560 .bf16) (X12 : Vec F S9216x128 .i32)
    (X13 : Vec F S512x2560 .bf16) (X14 : Vec F S8x512 .i32) : IVec S256x512 8 :=
  slowLoR (slowAcc i X11 X12 X13 X14) (k0_pay40 X8) (k0_pay41 X9) (X3 z1)

/-- The exact path's requantization of an accumulator block, last 256 rows: the accumulator comes as its three terms. -/
def slowHiR (v175 v178 v180 : IVec S256x512 32) (v183 v186 v188 : Vec F S1x512 .i32) (v190 : Elt F .i32) : IVec S256x512 8 :=
  k0_pay10 v190
    (k0_pay78 (k0_pay66 v175 v178 v180 v183) (k0_pay70 v175 v178 v180 v183) (k0_pay73 v175 v178 v180 v183 v186)
      (k0_pay74 v175 v178 v180 v183 v186) (k0_pay75 v175 v178 v180 v183 v186) (k0_pay76 v175 v178 v180 v183 v186) (k0_pay77 v175 v178 v180 v183 v186))
    (k0_pay79 (k0_pay65 v188)) (k0_pay80 (k0_pay65 v188))
    (k0_pay82 (k0_pay65 v188) (k0_pay66 v175 v178 v180 v183) (k0_pay70 v175 v178 v180 v183) (k0_pay73 v175 v178 v180 v183 v186)
      (k0_pay74 v175 v178 v180 v183 v186) (k0_pay75 v175 v178 v180 v183 v186) (k0_pay76 v175 v178 v180 v183 v186) (k0_pay77 v175 v178 v180 v183 v186))
    (k0_pay83 (k0_pay65 v188))

/-- The exact path's last 256 rows at grid point `i`. -/
def slowHi (i : grid0.Coords) (X3 : Vec F S1 .i32) (X8 X9 : Vec F S1x512 .i32) (X11 : Vec F S9216x2560 .bf16) (X12 : Vec F S9216x128 .i32)
    (X13 : Vec F S512x2560 .bf16) (X14 : Vec F S8x512 .i32) : IVec S256x512 8 :=
  slowHiR
    (k0_pay60 (win X11 (k0_off7 i 256#32) S256x1024.size (k0_off7_inb i 1)) (win X13 ![0, 0] S512x1024.size inb_S512x2560_S512x1024_0_0)
      (win X11 (k0_off8 i 256#32) S256x1024.size (k0_off8_inb i 1)) (win X13 ![0, 1024] S512x1024.size inb_S512x2560_S512x1024_0_1024)
      (win X11 (k0_off9 i 256#32) S256x512.size (k0_off9_inb i 1)) (win X13 ![0, 2048] S512x512.size inb_S512x2560_S512x512_0_2048))
    (k0_pay61 (win X12 (k0_off10 i 256#32) S256x128.size (k0_off10_inb i 1))) (k0_pay62 (win X14 ![0, 0] S1x512.size inb_S8x512_S1x512_0_0))
    (win X14 ![6, 0] S1x512.size inb_S8x512_S1x512_6_0) X8 X9 (X3 z1)

/-- A block of two 256-row halves stored over `old`. -/
def halves (old : Vec F S512x512 .i8) (lo hi : IVec S256x512 8) : Vec F S512x512 .i8 :=
  VecWindow.put (VecWindow.put old ![0, 0] S256x512.size lo) ![256, 0] S256x512.size hi

/-- The row-block index `m` is zero, as the kernel tests it. -/
abbrev isM0 (i : grid0.Coords) : Prop := (Scalar.cmpi .ne (Scalar.extui (Scalar.cmpi .eq (BitVec.ofNat 32 (i 1).val : BitVec 32) 0#32)) 0#32 : BitVec 1) = 1#1

/-- The scratch buffers after a grid point, from what they held before it: the centred `x` rows, the row sums, the centred `w` block and the parameter buffers. -/
def aX (i : grid0.Coords) (X4 : Vec F S512x2560 .i8) (X11 : Vec F S9216x2560 .bf16) : Vec F S9216x2560 .bf16 :=
  if k0_cond1 i = 1#1 then VecWindow.put X11 (k0_off1 i) S512x2560.size (k0_pay2 X4) else X11
def aR (i : grid0.Coords) (X4 : Vec F S512x2560 .i8) (X12 : Vec F S9216x128 .i32) : Vec F S9216x128 .i32 :=
  if k0_cond1 i = 1#1 then VecWindow.put X12 (k0_off2 i) S512x128.size (k0_pay3 X4) else X12
def bW (i : grid0.Coords) (X5 : Vec F S512x2560 .i8) (X13 : Vec F S512x2560 .bf16) : Vec F S512x2560 .bf16 :=
  if isM0 i then k0_pay11 X5 else X13
def bI (i : grid0.Coords) (X2 X3 : Vec F S1 .i32) (X5 : Vec F S512x2560 .i8) (X6 X7 X8 X9 : Vec F S1x512 .i32) (X14 : Vec F S8x512 .i32) : Vec F S8x512 .i32 :=
  if isM0 i then ipOf X2 X3 X5 X6 X7 X8 X9 X14 else X14
def bF (i : grid0.Coords) (X3 : Vec F S1 .i32) (X8 X9 : Vec F S1x512 .i32) (X15 : Vec F S8x512 .f32) : Vec F S8x512 .f32 :=
  if isM0 i then fpOf X3 X8 X9 X15 else X15

/-- The output block a grid point stores: the fast path's where the flag `b` is set, the exact path's where it is not. -/
def outPut (i : grid0.Coords) (X3 : Vec F S1 .i32) (X8 X9 : Vec F S1x512 .i32) (X10 : Vec F S512x512 .i8) (X11 : Vec F S9216x2560 .bf16) (X12 : Vec F S9216x128 .i32)
    (X13 : Vec F S512x2560 .bf16) (X14 : Vec F S8x512 .i32) (X15 : Vec F S8x512 .f32) (b : BitVec 1) : Vec F S512x512 .i8 :=
  if b = 1#1 then halves X10 (fastLo i X11 X12 X13 X14 X15) (fastHi i X11 X12 X13 X14 X15)
  else halves X10 (slowLo i X3 X8 X9 X11 X12 X13 X14) (slowHi i X3 X8 X9 X11 X12 X13 X14)

section Body

variable (i : grid0.Coords) (arg2 : Memref sig .tc .smem S1 .i32) (harg2 : arg2.IsWhole) (arg3 : Memref sig .tc .smem S1 .i32) (harg3 : arg3.IsWhole) (arg4 : Memref sig .tc .vmem S512x2560 .i8) (harg4 : arg4.IsWhole) (arg5 : Memref sig .tc .vmem S512x2560 .i8) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S512x512 .i8) (harg10 : arg10.IsWhole) (arg11 : Memref sig .tc .vmem S9216x2560 .bf16) (harg11 : arg11.IsWhole) (arg12 : Memref sig .tc .vmem S9216x128 .i32) (harg12 : arg12.IsWhole) (arg13 : Memref sig .tc .vmem S512x2560 .bf16) (harg13 : arg13.IsWhole) (arg14 : Memref sig .tc .vmem S8x512 .i32) (harg14 : arg14.IsWhole) (arg15 : Memref sig .tc .vmem S8x512 .f32) (harg15 : arg15.IsWhole) (arg16 : Memref sig .tc .smem S1 .i32) (harg16 : arg16.IsWhole)

/-- The prologue of a grid point: when `n = 0` it stores the centred block of `x` and its row sums, then `jp`. -/
def progA (jp : PUnit.{1} → PP F) : PP F := do
  if k0_h1 : k0_cond1 i = 1#1 then do
    let v16 : Vec F S512x2560 .i8 ← Prog.lift (.load arg4 (Rect.unit (s := S512x2560) ![0, 0] S512x2560.size inb_S512x2560_S512x2560_0_0).toLoadRect (View.loadsAt_vmem h_S512x2560))
    let v23 : Vec F S512x2560 .bf16 ← Prog.lift (.load arg11 (Rect.unit (s := S9216x2560) (k0_off1 i) S512x2560.size (k0_off1_inb i k0_h1)).toLoadRect (View.loadsAt_vmem h_S512x2560))
    Prog.lift (.store arg11 (Rect.unit (s := S9216x2560) (k0_off1 i) S512x2560.size (k0_off1_inb i k0_h1)) (k0_pay2 v16) Finset.univ (View.stores_vmem h_S512x2560 (harg11.storeExact_slice rfl _ (k0_off1_packedbf16 i k0_h1)) (fun _ => rfl)) (.inl rfl))
    let v31 : Vec F S512x128 .i32 ← Prog.lift (.load arg12 (Rect.unit (s := S9216x128) (k0_off2 i) S512x128.size (k0_off2_inb i k0_h1)).toLoadRect (View.loadsAt_vmem h_S512x128))
    Prog.lift (.store arg12 (Rect.unit (s := S9216x128) (k0_off2 i) S512x128.size (k0_off2_inb i k0_h1)) (k0_pay3 v16) Finset.univ (View.stores_vmem_bits_univ h_S512x128 rfl) (.inl rfl))
    jp ⟨⟩
  else do
    jp ⟨⟩

/-- The column-block set-up: when `m = 0` it stores the centred block of `w`, the per-column parameters and the path flag, then `jp`. -/
def progB (jp : PUnit.{1} → PP F) : PP F := do
  let arg1 : BitVec 32 := BitVec.ofNat 32 (i 1).val
  let v5 : BitVec 1 := Scalar.cmpi .eq arg1 0#32
  let v6 : BitVec 32 := Scalar.extui v5
  let v7 : BitVec 1 := Scalar.cmpi .ne v6 0#32
  if k0_h2 : v7 = 1#1 then do
    let ⟨v26, v27, v29, v31, v33, v35, v42, v49, v51⟩ : Σ' (v26 : Elt F .i32) (v27 : Elt F .i32) (v29 : IVec S1x512 32) (v31 : IVec S1x512 32) (v33 : IVec S1x512 32) (v35 : IVec S1x512 32) (v42 : IVec S1x512 32) (v49 : IVec S1x512 32), IVec S1x512 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
    let ⟨v83, v87, v92, v94⟩ : Σ' (v83 : BitVec 1) (v87 : IVec S1x512 32) (v92 : FVec F S1x512 .f32), IVec S1x512 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v26 v27 v29 v31 v33 v35 v51
    let ⟨v98, v117, v133⟩ : Σ' (v98 : FVec F S1x512 .f32) (v117 : IVec S1x512 32), IVec S1x512 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v33 v42 v49 v87 v94
    Prog.lift (.store arg14 (Rect.unit (s := S8x512) ![4, 0] S1x512.size inb_S8x512_S1x512_4_0) v133 Finset.univ (View.stores_vmem_bits_univ h_S1x512 rfl) (.inl rfl))
    let v136 : Vec F S1x512 .i32 ← Prog.lift (.load arg14 (Rect.unit (s := S8x512) ![5, 0] S1x512.size inb_S8x512_S1x512_5_0).toLoadRect (View.loadsAt_vmem h_S1x512))
    Prog.lift (.store arg14 (Rect.unit (s := S8x512) ![5, 0] S1x512.size inb_S8x512_S1x512_5_0) (k0_pay4 v117) Finset.univ (View.stores_vmem_bits_univ h_S1x512 rfl) (.inl rfl))
    let v139 : Vec F S1x512 .i32 ← Prog.lift (.load arg14 (Rect.unit (s := S8x512) ![6, 0] S1x512.size inb_S8x512_S1x512_6_0).toLoadRect (View.loadsAt_vmem h_S1x512))
    Prog.lift (.store arg14 (Rect.unit (s := S8x512) ![6, 0] S1x512.size inb_S8x512_S1x512_6_0) (k0_pay5 v49) Finset.univ (View.stores_vmem_bits_univ h_S1x512 rfl) (.inl rfl))
    let v143 : Vec F S1x512 .f32 ← Prog.lift (.load arg15 (Rect.unit (s := S8x512) ![0, 0] S1x512.size inb_S8x512_S1x512_0_0).toLoadRect (View.loadsAt_vmem h_S1x512))
    Prog.lift (.store arg15 (Rect.unit (s := S8x512) ![0, 0] S1x512.size inb_S8x512_S1x512_0_0) (k0_pay6 v92 v98) Finset.univ (View.stores_vmem_bits_univ h_S1x512 rfl) (.inl rfl))
    let v146 : Vec F S1x512 .f32 ← Prog.lift (.load arg15 (Rect.unit (s := S8x512) ![1, 0] S1x512.size inb_S8x512_S1x512_1_0).toLoadRect (View.loadsAt_vmem h_S1x512))
    Prog.lift (.store arg15 (Rect.unit (s := S8x512) ![1, 0] S1x512.size inb_S8x512_S1x512_1_0) (k0_pay7 v92) Finset.univ (View.stores_vmem_bits_univ h_S1x512 rfl) (.inl rfl))
    let v156 : Vec F S1x512 .f32 ← Prog.lift (.load arg15 (Rect.unit (s := S8x512) ![2, 0] S1x512.size inb_S8x512_S1x512_2_0).toLoadRect (View.loadsAt_vmem h_S1x512))
    Prog.lift (.store arg15 (Rect.unit (s := S8x512) ![2, 0] S1x512.size inb_S8x512_S1x512_2_0) (k0_pay8 v92 v117) Finset.univ (View.stores_vmem_bits_univ h_S1x512 rfl) (.inl rfl))
    let v159 : BitVec 32 := Scalar.extui v83
    let v160 : Elt F .i32 ← smemLoad arg16 (Rect.unit (s := S1) ![0] S1.size inb_S1_S1_0) numel1_S1 rfl
    Prog.lift (.store arg16 (Rect.unit (s := S1) ![0] S1.size inb_S1_S1_0) (fun _ => v159) Finset.univ (View.stores_smem_one rfl numel1_S1) (.inl rfl))
    jp ⟨⟩
  else do
    jp ⟨⟩

/-- The fast path, taken when the stored flag is 1, then `jp`. -/
def progC (jp : PUnit.{1} → PP F) : PP F := do
  let arg1 : BitVec 32 := BitVec.ofNat 32 (i 1).val
  let v8 : Elt F .i32 ← smemLoad arg16 (Rect.unit (s := S1) ![0] S1.size inb_S1_S1_0) numel1_S1 rfl
  let v9 : BitVec 1 := Scalar.cmpi .eq v8 1#32
  let v10 : BitVec 32 := Scalar.extui v9
  let v11 : BitVec 1 := Scalar.cmpi .ne v10 0#32
  if v11 = 1#1 then do
    let ⟨v48, v51, v52⟩ : Σ' (v48 : IVec S256x512 32) (v51 : IVec S256x512 32), Vec F S1x512 .i32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1
    let ⟨v87, v89, v90, cst_40⟩ : Σ' (v87 : BitVec 32) (v89 : Vec F S256x1024 .bf16) (v90 : Vec F S512x1024 .bf16), FVec F S256x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v48 v51 v52
    let ⟨v117, v120, v123, v127, v129⟩ : Σ' (v117 : IVec S256x512 32) (v120 : IVec S256x512 32) (v123 : IVec S256x512 1) (v127 : IVec S256x512 32), IVec S256x512 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 v87 v89 v90 cst_40
    let v133 : Vec F S1x512 .f32 ← Prog.lift (.load arg15 (Rect.unit (s := S8x512) ![0, 0] S1x512.size inb_S8x512_S1x512_0_0).toLoadRect (View.loadsAt_vmem h_S1x512))
    let v137 : Vec F S1x512 .f32 ← Prog.lift (.load arg15 (Rect.unit (s := S8x512) ![1, 0] S1x512.size inb_S8x512_S1x512_1_0).toLoadRect (View.loadsAt_vmem h_S1x512))
    let v145 : Vec F S1x512 .f32 ← Prog.lift (.load arg15 (Rect.unit (s := S8x512) ![2, 0] S1x512.size inb_S8x512_S1x512_2_0).toLoadRect (View.loadsAt_vmem h_S1x512))
    let v153 : Vec F S256x512 .i8 ← Prog.lift (.load arg10 (Rect.unit (s := S512x512) ![256, 0] S256x512.size inb_S512x512_S256x512_256_0).toLoadRect (View.loadsAt_vmem h_S256x512))
    Prog.lift (.store arg10 (Rect.unit (s := S512x512) ![256, 0] S256x512.size inb_S512x512_S256x512_256_0) (k0_pay9 v117 v120 v123 v127 v129 v133 v137 v145) Finset.univ (View.stores_vmem h_S256x512 (harg10.storeExact_slice rfl _ packedi8_S512x512_S256x512_256_0) (fun _ => rfl)) (.inl rfl))
    jp ⟨⟩
  else do
    jp ⟨⟩

/-- The exact path, taken when the stored flag is 0, then `jp`. -/
def progD (jp : PUnit.{1} → PP F) : PP F := do
  let arg1 : BitVec 32 := BitVec.ofNat 32 (i 1).val
  let v12 : Elt F .i32 ← smemLoad arg16 (Rect.unit (s := S1) ![0] S1.size inb_S1_S1_0) numel1_S1 rfl
  let v13 : BitVec 1 := Scalar.cmpi .eq v12 0#32
  let v14 : BitVec 32 := Scalar.extui v13
  let v15 : BitVec 1 := Scalar.cmpi .ne v14 0#32
  if v15 = 1#1 then do
    let ⟨v48, v50, v52⟩ : Σ' (v48 : IVec S256x512 32) (v50 : IVec S1x512 32), IVec S1x512 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1
    let ⟨v53, v55, v65, v90, v96⟩ : Σ' (v53 : Elt F .i32) (v55 : IVec S256x512 1) (v65 : IVec S256x512 32) (v90 : IVec S256x512 32), IVec S256x512 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v48 v50
    let ⟨v141, v142⟩ : Σ' (v141 : IVec S256x512 32), IVec S256x512 1 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v52 v55 v65 v90 v96
    let ⟨v175, v178, v180⟩ : Σ' (v175 : IVec S256x512 32) (v178 : IVec S256x512 32), IVec S256x512 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v53 v141 v142
    let ⟨v189, v190, v192, v202, v208, v213, v215, v220, v222⟩ : Σ' (v189 : IVec S1x512 32) (v190 : Elt F .i32) (v192 : IVec S256x512 1) (v202 : IVec S256x512 32) (v208 : IVec S256x512 32) (v213 : IVec S256x512 32) (v215 : IVec S256x512 32) (v220 : IVec S256x512 32), IVec S256x512 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v175 v178 v180
    let ⟨v249, v254, v256, v264, v266⟩ : Σ' (v249 : IVec S256x512 32) (v254 : IVec S1x512 1) (v256 : IVec S1x512 32) (v264 : IVec S256x512 32), IVec S1x512 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v189 v192 v202 v208 v213 v215 v220 v222
    let v289 : Vec F S256x512 .i8 ← Prog.lift (.load arg10 (Rect.unit (s := S512x512) ![256, 0] S256x512.size inb_S512x512_S256x512_256_0).toLoadRect (View.loadsAt_vmem h_S256x512))
    Prog.lift (.store arg10 (Rect.unit (s := S512x512) ![256, 0] S256x512.size inb_S512x512_S256x512_256_0) (k0_pay10 v190 v249 v254 v256 v264 v266) Finset.univ (View.stores_vmem h_S256x512 (harg10.storeExact_slice rfl _ packedi8_S512x512_S256x512_256_0) (fun _ => rfl)) (.inl rfl))
    jp ⟨⟩
  else do
    jp ⟨⟩

set_option maxRecDepth 65536 in
/-- The kernel body is its four stages in order. -/
theorem skel_eq : cc0_u8_gemm_requant_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
    = progA i arg4 arg11 harg11 arg12 (fun _ => progB i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progC i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progD i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => pure ⟨⟩)))) := rfl

/-- Stage A at `n = 0`. -/
theorem wpA (c : Dev nD) (h : k0_cond1 i = 1#1) (X4 : Vec F S512x2560 .i8) (X11 : Vec F S9216x2560 .bf16) (X12 : Vec F S9216x128 .i32)
    (jp : PUnit.{1} → PP F) (K : PUnit.{1} → sProp 𝕄) :
    iprop(owns (c : Thread nD τ) arg4 fullShare X4
      ∗ owns (c : Thread nD τ) arg11 fullShare X11
      ∗ owns (c : Thread nD τ) arg12 fullShare X12
      ∗ (iprop(owns (c : Thread nD τ) arg4 fullShare X4
      ∗ owns (c : Thread nD τ) arg11 fullShare (VecWindow.put X11 (k0_off1 i) S512x2560.size (k0_pay2 X4))
      ∗ owns (c : Thread nD τ) arg12 fullShare (VecWindow.put X12 (k0_off2 i) S512x128.size (k0_pay3 X4)))
        -∗ wp frame (wpE (defs₀ (F := F)) Variants.none c none) Set.univ (jp ⟨⟩) K))
    ⊢ wp frame (wpE (defs₀ (F := F)) Variants.none c none) Set.univ (progA i arg4 arg11 harg11 arg12 jp) K := by
  unfold progA owns
  iintro ⟨⟨%f4, %h4, H4⟩, ⟨%f11, %h11, H11⟩, ⟨%f12, %h12, H12⟩, Hk⟩
  sl_exec
  iapply Hk
  isplitl [H4]
  · iexists _; isplitr; swap; · iexact H4
    ipureintro; exact h4
  isplitl [H11]
  · iexists _; isplitr; swap; · iexact H11
    ipureintro; rw [View.read_writes_cons_put _ _ _ _ _ rfl, View.writes_nil, h11, View.readAt_full, h4]
  iexists _; isplitr; swap; · iexact H12
  ipureintro; rw [View.read_writes_cons_put _ _ _ _ _ rfl, View.writes_nil, h12, View.readAt_full, h4]

set_option maxHeartbeats 1000000 in
/-- Stage B at `m = 0`. -/
theorem wpB (c : Dev nD) (h : (Scalar.cmpi .ne (Scalar.extui (Scalar.cmpi .eq (BitVec.ofNat 32 (i 1).val : BitVec 32) 0#32)) 0#32 : BitVec 1) = 1#1)
    (X2 X3 : Vec F S1 .i32) (X5 : Vec F S512x2560 .i8) (X6 X7 X8 X9 : Vec F S1x512 .i32) (X13 : Vec F S512x2560 .bf16) (X14 : Vec F S8x512 .i32) (X15 : Vec F S8x512 .f32) (X16 : Vec F S1 .i32)
    (jp : PUnit.{1} → PP F) (K : PUnit.{1} → sProp 𝕄) :
    iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare (k0_pay11 X5)
      ∗ owns (c : Thread nD τ) arg14 fullShare (ipOf X2 X3 X5 X6 X7 X8 X9 X14)
      ∗ owns (c : Thread nD τ) arg15 fullShare (fpOf X3 X8 X9 X15)
      ∗ owns (c : Thread nD τ) arg16 fullShare (fun _ => Scalar.extui (flagOf X2 X3 X6 X7 X8 X9)))
        -∗ wp frame (wpE (defs₀ (F := F)) Variants.none c none) Set.univ (jp ⟨⟩) K))
    ⊢ wp frame (wpE (defs₀ (F := F)) Variants.none c none) Set.univ (progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progB owns
  iintro ⟨⟨%f2, %h2, H2⟩, ⟨%f3, %h3, H3⟩, ⟨%f5, %h5, H5⟩, ⟨%f6, %h6, H6⟩, ⟨%f7, %h7, H7⟩, ⟨%f8, %h8, H8⟩, ⟨%f9, %h9, H9⟩, ⟨%f13, %h13, H13⟩, ⟨%f14, %h14, H14⟩, ⟨%f15, %h15, H15⟩, ⟨%f16, %h16, H16⟩, Hk⟩
  simp only [k0_part1_eq_skeleton, k0_part2_eq_skeleton, k0_part3_eq_skeleton]
  unfold k0_part1_skel k0_part2_skel k0_part3_skel
  sl_exec
  iapply Hk
  isplitl [H2]
  · iexists _; isplitr; swap; · iexact H2
    ipureintro; exact h2
  isplitl [H3]
  · iexists _; isplitr; swap; · iexact H3
    ipureintro; exact h3
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  have r5 : View.readAt (Elt F) arg5.view (Rect.unit ![0, 0] S512x2560.size inb_S512x2560_S512x2560_0_0).toLoadRect f5 = X5 := by rw [View.readAt_full, h5]
  have r6 : View.readAt (Elt F) arg6.view (Rect.unit ![0, 0] S1x512.size inb_S1x512_S1x512_0_0).toLoadRect f6 = X6 := by rw [View.readAt_full, h6]
  have r7 : View.readAt (Elt F) arg7.view (Rect.unit ![0, 0] S1x512.size inb_S1x512_S1x512_0_0).toLoadRect f7 = X7 := by rw [View.readAt_full, h7]
  have r8 : View.readAt (Elt F) arg8.view (Rect.unit ![0, 0] S1x512.size inb_S1x512_S1x512_0_0).toLoadRect f8 = X8 := by rw [View.readAt_full, h8]
  have r9 : View.readAt (Elt F) arg9.view (Rect.unit ![0, 0] S1x512.size inb_S1x512_S1x512_0_0).toLoadRect f9 = X9 := by rw [View.readAt_full, h9]
  have e2 : wpB.sl.r arg2 c f2 = X2 z1 := by unfold wpB.sl.r; rw [View.readAt_full, h2]
  have e3 : wpB.sl.r_1 arg3 c f3 = X3 z1 := by unfold wpB.sl.r_1; rw [View.readAt_full, h3]
  isplitl [H13]
  · iexists _; isplitr; swap; · iexact H13
    ipureintro; rw [View.read_writes_full, View.readAt_full, h5]
  isplitl [H14]
  · iexists _; isplitr; swap; · iexact H14
    ipureintro
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl,
      View.read_writes_cons_put _ _ _ _ _ rfl, View.writes_nil, h14]
    dsimp only
    rw [r5, r6, r7, r8, r9, e2, e3]
    rfl
  isplitl [H15]
  · iexists _; isplitr; swap; · iexact H15
    ipureintro
    rw [View.read_writes_cons_put _ _ _ _ _ rfl, View.read_writes_cons_put _ _ _ _ _ rfl, View.read_writes_cons_put _ _ _ _ _ rfl, View.writes_nil, h15]
    dsimp only
    rw [r8, r9, e3]
    rfl
  iexists _; isplitr; swap; · iexact H16
  ipureintro
  rw [View.read_writes_full]
  unfold wpB.sl.v83 wpB.sl.v82 wpB.sl.v81 wpB.sl.v80 wpB.sl.v79 wpB.sl.v78 wpB.sl.v77 wpB.sl.v76 wpB.sl.v75 wpB.sl.v74
  dsimp only
  rw [e2, e3, r6, r7, r8, r9]
  rfl

/-- Stage C when the stored flag is 1. -/
theorem wpC (c : Dev nD) (X10 : Vec F S512x512 .i8) (X11 : Vec F S9216x2560 .bf16) (X12 : Vec F S9216x128 .i32)
    (X13 : Vec F S512x2560 .bf16) (X14 : Vec F S8x512 .i32) (X15 : Vec F S8x512 .f32)
    (jp : PUnit.{1} → PP F) (K : PUnit.{1} → sProp 𝕄) :
    iprop(owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => 1#32)
      ∗ (iprop(owns (c : Thread nD τ) arg10 fullShare (halves X10 (fastLo i X11 X12 X13 X14 X15) (fastHi i X11 X12 X13 X14 X15))
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => 1#32))
        -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progC owns
  iintro ⟨⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, Hk⟩
  simp only [k0_part4_eq_skeleton, k0_part5_eq_skeleton, k0_part6_eq_skeleton]
  unfold k0_part4_skel k0_part5_skel k0_part6_skel
  sl_exec
  iapply Hk
  isplitl [H10]
  · iexists _; isplitr; swap; · iexact H10
    ipureintro
    have e16 : wpC.sl.r arg16 c f16 = 1#32 := by unfold wpC.sl.r; rw [View.readAt_full, h16]
    rw [dif_pos (by rw [e16]; rfl), View.read_writes_cons_put _ _ _ _ _ rfl, View.read_writes_cons_put _ _ _ _ _ rfl, View.writes_nil]
    subst h10 h11 h12 h13 h14 h15
    dsimp only
    unfold halves fastLo fastHi win
    rfl
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  iexists _; isplitr; swap; · iexact H16
  ipureintro; exact h16

set_option maxHeartbeats 1000000 in
/-- Stage D when the stored flag is 0. -/
theorem wpD (c : Dev nD) (X3 : Vec F S1 .i32) (X8 X9 : Vec F S1x512 .i32) (X10 : Vec F S512x512 .i8) (X11 : Vec F S9216x2560 .bf16) (X12 : Vec F S9216x128 .i32)
    (X13 : Vec F S512x2560 .bf16) (X14 : Vec F S8x512 .i32)
    (jp : PUnit.{1} → PP F) (K : PUnit.{1} → sProp 𝕄) :
    iprop(owns (c : Thread nD τ) arg3 fullShare X3
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg16 fullShare (fun _ => 0#32)
      ∗ (iprop(owns (c : Thread nD τ) arg3 fullShare X3
      ∗ owns (c : Thread nD τ) arg8 fullShare X8
      ∗ owns (c : Thread nD τ) arg9 fullShare X9
      ∗ owns (c : Thread nD τ) arg10 fullShare (halves X10 (slowLo i X3 X8 X9 X11 X12 X13 X14) (slowHi i X3 X8 X9 X11 X12 X13 X14))
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg16 fullShare (fun _ => 0#32))
        -∗ wp frame (wpE (defs₀ (F := F)) Variants.none c none) Set.univ (jp ⟨⟩) K))
    ⊢ wp frame (wpE (defs₀ (F := F)) Variants.none c none) Set.univ (progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progD owns
  iintro ⟨⟨%f3, %h3, H3⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f16, %h16, H16⟩, Hk⟩
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  sl_exec
  iapply Hk
  isplitl [H3]
  · iexists _; isplitr; swap; · iexact H3
    ipureintro; exact h3
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro
    have e16 : wpD.sl.r arg16 c f16 = 0#32 := by unfold wpD.sl.r; rw [View.readAt_full, h16]
    rw [dif_pos (by rw [e16]; rfl), View.read_writes_cons_put _ _ _ _ _ rfl, View.read_writes_cons_put _ _ _ _ _ rfl, View.writes_nil]
    have e3 : wpD.sl.r_1 arg3 c f3 = X3 z1 := by unfold wpD.sl.r_1; rw [View.readAt_full, h3]
    have r8 : View.readAt (Elt F) arg8.view (Rect.unit ![0, 0] S1x512.size inb_S1x512_S1x512_0_0).toLoadRect f8 = X8 := by rw [View.readAt_full, h8]
    have r9 : View.readAt (Elt F) arg9.view (Rect.unit ![0, 0] S1x512.size inb_S1x512_S1x512_0_0).toLoadRect f9 = X9 := by rw [View.readAt_full, h9]
    dsimp only
    rw [r8, r9, e3]
    clear r8 r9 e3
    subst h10 h11 h12 h13 h14
    unfold halves slowLo slowHi slowLoR slowHiR slowAcc win
    rfl
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  iexists _; isplitr; swap; · iexact H16
  ipureintro; exact h16

/-- Stage A at `n ≠ 0` does nothing. -/
theorem skipA (h : ¬ k0_cond1 i = 1#1) (jp : PUnit.{1} → PP F) : progA i arg4 arg11 harg11 arg12 jp = jp ⟨⟩ := by
  unfold progA; rw [dif_neg h]

/-- Stage B at `m ≠ 0` does nothing. -/
theorem skipB (h : ¬ (Scalar.cmpi .ne (Scalar.extui (Scalar.cmpi .eq (BitVec.ofNat 32 (i 1).val : BitVec 32) 0#32)) 0#32 : BitVec 1) = 1#1)
    (jp : PUnit.{1} → PP F) : progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp = jp ⟨⟩ := by
  unfold progB; dsimp only; rw [dif_neg h]

/-- Reading the flag. -/
theorem wp_flag (c : Dev nD) (v : BitVec 32) (k : Elt F .i32 → PP F) (K : PUnit.{1} → sProp 𝕄) :
    iprop(owns (c : Thread nD τ) arg16 fullShare (fun _ => v) ∗ (iprop(owns (c : Thread nD τ) arg16 fullShare (fun _ => v)) -∗ wp frame (wpE (defs₀ (F := F)) Variants.none c none) Set.univ (k v) K))
    ⊢ wp frame (wpE (defs₀ (F := F)) Variants.none c none) Set.univ (smemLoad arg16 (Rect.unit (s := S1) ![0] S1.size inb_S1_S1_0) numel1_S1 rfl >>= k) K := by
  unfold owns
  iintro ⟨⟨%f16, %h16, H16⟩, Hk⟩
  sl_exec
  have e : wp_flag.sl.r arg16 c f16 = v := by unfold wp_flag.sl.r; rw [View.readAt_full, h16]
  rw [e]
  iapply Hk
  iexists _; isplitr; swap; · iexact H16
  ipureintro; exact h16

/-- Stage C (the fast path) does nothing when the stored flag is 0. -/
theorem wpCF (c : Dev nD) (X10 : Vec F S512x512 .i8) (jp : PUnit.{1} → PP F) (K : PUnit.{1} → sProp 𝕄) :
    iprop(owns (c : Thread nD τ) arg10 fullShare X10 ∗ owns (c : Thread nD τ) arg16 fullShare (fun _ => 0#32)
      ∗ (iprop(owns (c : Thread nD τ) arg10 fullShare X10 ∗ owns (c : Thread nD τ) arg16 fullShare (fun _ => 0#32))
        -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progC
  dsimp only
  iintro ⟨H10, H16, Hk⟩
  iapply wp_flag
  isplitl [H16]; · iexact H16
  iintro H16
  rw [if_neg (by decide)]
  iapply Hk
  isplitl [H10]; · iexact H10
  iexact H16

/-- Stage D (the exact path) does nothing when the stored flag is 1. -/
theorem wpDF (c : Dev nD) (X10 : Vec F S512x512 .i8) (jp : PUnit.{1} → PP F) (K : PUnit.{1} → sProp 𝕄) :
    iprop(owns (c : Thread nD τ) arg10 fullShare X10 ∗ owns (c : Thread nD τ) arg16 fullShare (fun _ => 1#32)
      ∗ (iprop(owns (c : Thread nD τ) arg10 fullShare X10 ∗ owns (c : Thread nD τ) arg16 fullShare (fun _ => 1#32))
        -∗ wp frame (wpE (defs₀ (F := F)) Variants.none c none) Set.univ (jp ⟨⟩) K))
    ⊢ wp frame (wpE (defs₀ (F := F)) Variants.none c none) Set.univ (progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progD
  dsimp only
  iintro ⟨H10, H16, Hk⟩
  iapply wp_flag
  isplitl [H16]; · iexact H16
  iintro H16
  rw [if_neg (by decide)]
  iapply Hk
  isplitl [H10]; · iexact H10
  iexact H16

/-- Stage A at any point. -/
theorem stA (c : Dev nD) (X4 : Vec F S512x2560 .i8) (X11 : Vec F S9216x2560 .bf16) (X12 : Vec F S9216x128 .i32) (jp : PUnit.{1} → PP F) (K : PUnit.{1} → sProp 𝕄) :
    iprop(owns (c : Thread nD τ) arg4 fullShare X4
      ∗ owns (c : Thread nD τ) arg11 fullShare X11
      ∗ owns (c : Thread nD τ) arg12 fullShare X12
      ∗ (iprop(owns (c : Thread nD τ) arg4 fullShare X4
      ∗ owns (c : Thread nD τ) arg11 fullShare (aX i X4 X11)
      ∗ owns (c : Thread nD τ) arg12 fullShare (aR i X4 X12)) -∗ wp frame (wpE (defs₀ (F := F)) Variants.none c none) Set.univ (jp ⟨⟩) K))
    ⊢ wp frame (wpE (defs₀ (F := F)) Variants.none c none) Set.univ (progA i arg4 arg11 harg11 arg12 jp) K := by
  unfold aX aR
  by_cases h : k0_cond1 i = 1#1
  · rw [if_pos h, if_pos h]; exact wpA i arg4 arg11 harg11 arg12 c h X4 X11 X12 jp K
  · rw [if_neg h, if_neg h, skipA i arg4 arg11 harg11 arg12 h]
    · iintro ⟨H4, H11, H12, Hk⟩
      iapply Hk
      isplitl [H4]; · iexact H4
      isplitl [H11]; · iexact H11
      iexact H12

/-- Stage B at any point: the flag left is `b`. -/
theorem stB (c : Dev nD) (b : BitVec 1) (X2 X3 : Vec F S1 .i32) (X5 : Vec F S512x2560 .i8) (X6 X7 X8 X9 : Vec F S1x512 .i32) (X13 : Vec F S512x2560 .bf16) (X14 : Vec F S8x512 .i32) (X15 : Vec F S8x512 .f32) (X16 : Vec F S1 .i32)
    (hb : isM0 i → flagOf X2 X3 X6 X7 X8 X9 = b) (hb' : ¬ isM0 i → X16 = fun _ => Scalar.extui b) (jp : PUnit.{1} → PP F) (K : PUnit.{1} → sProp 𝕄) :
    iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare (bW i X5 X13)
      ∗ owns (c : Thread nD τ) arg14 fullShare (bI i X2 X3 X5 X6 X7 X8 X9 X14)
      ∗ owns (c : Thread nD τ) arg15 fullShare (bF i X3 X8 X9 X15)
      ∗ owns (c : Thread nD τ) arg16 fullShare (fun _ => Scalar.extui b)) -∗ wp frame (wpE (defs₀ (F := F)) Variants.none c none) Set.univ (jp ⟨⟩) K))
    ⊢ wp frame (wpE (defs₀ (F := F)) Variants.none c none) Set.univ (progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold bW bI bF
  by_cases h : isM0 i
  · rw [if_pos h, if_pos h, if_pos h, ← hb h]; exact wpB i arg2 harg2 arg3 harg3 arg4 harg4 arg5 harg5 arg6 harg6 arg7 harg7 arg8 harg8 arg9 harg9 arg10 harg10 arg11 harg11 arg12 harg12 arg13 harg13 arg14 harg14 arg15 harg15 arg16 harg16 c h X2 X3 X5 X6 X7 X8 X9 X13 X14 X15 X16 jp K
  · rw [if_neg h, if_neg h, if_neg h, skipB i arg2 harg2 arg3 harg3 arg4 harg4 arg5 harg5 arg6 harg6 arg7 harg7 arg8 harg8 arg9 harg9 arg10 harg10 arg11 harg11 arg12 harg12 arg13 harg13 arg14 harg14 arg15 harg15 arg16 harg16 h, hb' h]
    · iintro ⟨H2, H3, H5, H6, H7, H8, H9, H13, H14, H15, H16, Hk⟩
      iapply Hk
      isplitl [H2]; · iexact H2
      isplitl [H3]; · iexact H3
      isplitl [H5]; · iexact H5
      isplitl [H6]; · iexact H6
      isplitl [H7]; · iexact H7
      isplitl [H8]; · iexact H8
      isplitl [H9]; · iexact H9
      isplitl [H13]; · iexact H13
      isplitl [H14]; · iexact H14
      isplitl [H15]; · iexact H15
      iexact H16

/-- Stages C and D: the flag `b` decides which of them stores the block. -/
theorem stCD (c : Dev nD) (b : BitVec 1) (X3 : Vec F S1 .i32) (X8 X9 : Vec F S1x512 .i32) (X10 : Vec F S512x512 .i8) (X11 : Vec F S9216x2560 .bf16) (X12 : Vec F S9216x128 .i32) (X13 : Vec F S512x2560 .bf16) (X14 : Vec F S8x512 .i32) (X15 : Vec F S8x512 .f32) (jp : PUnit.{1} → PP F) (K : PUnit.{1} → sProp 𝕄) :
    iprop(owns (c : Thread nD τ) arg3 fullShare X3
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => Scalar.extui b)
      ∗ (iprop(owns (c : Thread nD τ) arg3 fullShare X3
      ∗ owns (c : Thread nD τ) arg8 fullShare X8
      ∗ owns (c : Thread nD τ) arg9 fullShare X9
      ∗ owns (c : Thread nD τ) arg10 fullShare (outPut i X3 X8 X9 X10 X11 X12 X13 X14 X15 b)
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => Scalar.extui b)) -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp)) K := by
  unfold outPut
  iintro ⟨H3, H8, H9, H10, H11, H12, H13, H14, H15, H16, Hk⟩
  rcases (by decide : ∀ b : BitVec 1, b = 1#1 ∨ b = 0#1) b with rfl | rfl
  · rw [if_pos rfl, show (Scalar.extui 1#1 : BitVec 32) = 1#32 from rfl]
    iapply (wpC i arg2 harg2 arg3 harg3 arg4 harg4 arg5 harg5 arg6 harg6 arg7 harg7 arg8 harg8 arg9 harg9 arg10 harg10 arg11 harg11 arg12 harg12 arg13 harg13 arg14 harg14 arg15 harg15 arg16 harg16 c X10 X11 X12 X13 X14 X15 _ K)
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H10, H11, H12, H13, H14, H15, H16⟩
    iapply (wpDF i arg2 harg2 arg3 harg3 arg4 harg4 arg5 harg5 arg6 harg6 arg7 harg7 arg8 harg8 arg9 harg9 arg10 harg10 arg11 harg11 arg12 harg12 arg13 harg13 arg14 harg14 arg15 harg15 arg16 harg16 c _ jp K)
    isplitl [H10]; · iexact H10
    isplitl [H16]; · iexact H16
    iintro ⟨H10, H16⟩
    iapply Hk
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [if_neg (by decide), show (Scalar.extui 0#1 : BitVec 32) = 0#32 from rfl]
    iapply (wpCF i arg2 harg2 arg3 harg3 arg4 harg4 arg5 harg5 arg6 harg6 arg7 harg7 arg8 harg8 arg9 harg9 arg10 harg10 arg11 harg11 arg12 harg12 arg13 harg13 arg14 harg14 arg15 harg15 arg16 harg16 c X10 _ K)
    isplitl [H10]; · iexact H10
    isplitl [H16]; · iexact H16
    iintro ⟨H10, H16⟩
    iapply (wpD i arg2 harg2 arg3 harg3 arg4 harg4 arg5 harg5 arg6 harg6 arg7 harg7 arg8 harg8 arg9 harg9 arg10 harg10 arg11 harg11 arg12 harg12 arg13 harg13 arg14 harg14 arg15 harg15 arg16 harg16 c X3 X8 X9 X10 X11 X12 X13 X14 jp K)
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    iintro ⟨H3, H8, H9, H10, H11, H12, H13, H14, H16⟩
    iapply Hk
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body at one grid point: from any contents, with the flag the set-up leaves being the bit `b`. -/
theorem wp_body (c : Dev nD) (b : BitVec 1) (X2 X3 : Vec F S1 .i32) (X4 X5 : Vec F S512x2560 .i8) (X6 X7 X8 X9 : Vec F S1x512 .i32) (X10 : Vec F S512x512 .i8) (X11 : Vec F S9216x2560 .bf16) (X12 : Vec F S9216x128 .i32) (X13 : Vec F S512x2560 .bf16) (X14 : Vec F S8x512 .i32) (X15 : Vec F S8x512 .f32) (X16 : Vec F S1 .i32)
    (hb : isM0 i → flagOf X2 X3 X6 X7 X8 X9 = b) (hb' : ¬ isM0 i → X16 = fun _ => Scalar.extui b) (K : PUnit.{1} → sProp 𝕄) :
    iprop(owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare (outPut i X3 X8 X9 X10 (aX i X4 X11) (aR i X4 X12) (bW i X5 X13) (bI i X2 X3 X5 X6 X7 X8 X9 X14) (bF i X3 X8 X9 X15) b)
      ∗ owns (c : Thread nD τ) arg11 fullShare (aX i X4 X11)
      ∗ owns (c : Thread nD τ) arg12 fullShare (aR i X4 X12)
      ∗ owns (c : Thread nD τ) arg13 fullShare (bW i X5 X13)
      ∗ owns (c : Thread nD τ) arg14 fullShare (bI i X2 X3 X5 X6 X7 X8 X9 X14)
      ∗ owns (c : Thread nD τ) arg15 fullShare (bF i X3 X8 X9 X15)
      ∗ owns (c : Thread nD τ) arg16 fullShare (fun _ => Scalar.extui b)) -∗ K ⟨⟩))
    ⊢ wp frame (wpE (defs₀ (F := F)) Variants.none c none) Set.univ (cc0_u8_gemm_requant i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_u8_gemm_requant_eq_skeleton, skel_eq]
  iintro ⟨H2, H3, H4, H5, H6, H7, H8, H9, H10, H11, H12, H13, H14, H15, H16, Hk⟩
  iapply (stA i arg4 arg11 harg11 arg12 c X4 X11 X12 _ K)
  isplitl [H4]; · iexact H4
  isplitl [H11]; · iexact H11
  isplitl [H12]; · iexact H12
  iintro ⟨H4, H11, H12⟩
  iapply (stB i arg2 harg2 arg3 harg3 arg4 harg4 arg5 harg5 arg6 harg6 arg7 harg7 arg8 harg8 arg9 harg9 arg10 harg10 arg11 harg11 arg12 harg12 arg13 harg13 arg14 harg14 arg15 harg15 arg16 harg16 c b X2 X3 X5 X6 X7 X8 X9 X13 X14 X15 X16 hb hb' _ K)
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  iintro ⟨H2, H3, H5, H6, H7, H8, H9, H13, H14, H15, H16⟩
  iapply (stCD i arg2 harg2 arg3 harg3 arg4 harg4 arg5 harg5 arg6 harg6 arg7 harg7 arg8 harg8 arg9 harg9 arg10 harg10 arg11 harg11 arg12 harg12 arg13 harg13 arg14 harg14 arg15 harg15 arg16 harg16 c b X3 X8 X9 X10 _ _ _ _ _ (fun _ : PUnit.{1} => pure ⟨⟩) K)
  isplitl [H3]; · iexact H3
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H8, H9, H10, H11, H12, H13, H14, H15, H16⟩
  rw [wp_pure]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Body

end Cert.Proof.KB

end
-- ==== Proof.KernelRun.lean ====
module

public import proofs.«01_k».proof.Proof.KernelBody
public import Idealize.ShloMosaic.Lib.Pointwise
public import Idealize.ShloMosaic.Lib.Pipeline.ValueKit
public import Idealize.ShloMosaic.Lib.Pipeline.Quiescent

@[expose] public section

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The grid's geometry: point `t` is column block `t / 18` and row block `t % 18` -/

theorem lt_N (t : Fin cfg0.N) : t.val < 360 := lt_of_lt_of_eq t.isLt N_0
theorem idx0 : ∀ t : Fin cfg0.N, (cfg0.win 0).index t = ![0] := by decide +kernel
theorem idx1 : ∀ t : Fin cfg0.N, (cfg0.win 1).index t = ![0] := by decide +kernel
theorem idx2 : ∀ t : Fin cfg0.N, t.val < 18 → (cfg0.win 2).index t = ![t.val, 0] := by decide +kernel
theorem idx3 : ∀ t : Fin cfg0.N, (cfg0.win 3).index t = ![t.val / 18, 0] := by decide +kernel
theorem idx4 : ∀ t : Fin cfg0.N, (cfg0.win 4).index t = ![0, t.val / 18] := by decide +kernel
theorem idx5 : ∀ t : Fin cfg0.N, (cfg0.win 5).index t = ![0, t.val / 18] := by decide +kernel
theorem idx6 : ∀ t : Fin cfg0.N, (cfg0.win 6).index t = ![0, t.val / 18] := by decide +kernel
theorem idx7 : ∀ t : Fin cfg0.N, (cfg0.win 7).index t = ![0, t.val / 18] := by decide +kernel
theorem idx8 : ∀ t : Fin cfg0.N, (cfg0.win 8).index t = ![t.val % 18, t.val / 18] := by decide +kernel
theorem off1 : ∀ t : Fin cfg0.N, k0_off1 (grid0.coords t) = ![512 * (t.val % 18), 0] := by decide +kernel
theorem off2 : ∀ t : Fin cfg0.N, k0_off2 (grid0.coords t) = ![512 * (t.val % 18), 0] := by decide +kernel
theorem cond1 : ∀ t : Fin cfg0.N, k0_cond1 (grid0.coords t) = 1#1 ↔ t.val < 18 := by decide +kernel
theorem isM0_iff : ∀ t : Fin cfg0.N, isM0 (grid0.coords t) ↔ t.val % 18 = 0 := by decide +kernel

theorem row_lt (t : Fin cfg0.N) (r : Fin 512) : 512 * (t.val / 18) + r.val < 10240 := by
  have := lt_N t; omega

/-! ## The input blocks, read at an index -/

theorem iblk0_apply (c : Dev nD) (t : Fin cfg0.N) (y : S1.Idx) :
    (iblk m c 0 t : Vec F S1 .i32) y = V m c main_v0 (ix1 0) := by
  unfold iblk
  blk_ext [idx0 t]
theorem iblk1_apply (c : Dev nD) (t : Fin cfg0.N) (y : S1.Idx) :
    (iblk m c 1 t : Vec F S1 .i32) y = V m c main_v1 (ix1 0) := by
  unfold iblk
  blk_ext [idx1 t]
theorem iblk2_apply (c : Dev nD) (t : Fin cfg0.N) (h : t.val < 18) (y : S512x2560.Idx) :
    (iblk m c 2 t : Vec F S512x2560 .i8) y = V m c main_v2 (ix2 ⟨512 * t.val + (y 0).val, by have := (y 0).isLt; simp at this; omega⟩ (y 1)) := by
  unfold iblk
  blk_ext [idx2 t h]
theorem iblk3_apply (c : Dev nD) (t : Fin cfg0.N) (y : S512x2560.Idx) :
    (iblk m c 3 t : Vec F S512x2560 .i8) y = V m c main_arg2 (ix2 ⟨512 * (t.val / 18) + (y 0).val, row_lt t (y 0)⟩ (y 1)) := by
  unfold iblk
  blk_ext [idx3 t]
theorem iblk4_apply (c : Dev nD) (t : Fin cfg0.N) (y : S1x512.Idx) :
    (iblk m c 4 t : Vec F S1x512 .i32) y = V m c main_v3 (ix2 0 ⟨512 * (t.val / 18) + (y 1).val, row_lt t (y 1)⟩) := by
  unfold iblk
  blk_ext [idx4 t]
theorem iblk5_apply (c : Dev nD) (t : Fin cfg0.N) (y : S1x512.Idx) :
    (iblk m c 5 t : Vec F S1x512 .i32) y = V m c main_v4 (ix2 0 ⟨512 * (t.val / 18) + (y 1).val, row_lt t (y 1)⟩) := by
  unfold iblk
  blk_ext [idx5 t]
theorem iblk6_apply (c : Dev nD) (t : Fin cfg0.N) (y : S1x512.Idx) :
    (iblk m c 6 t : Vec F S1x512 .i32) y = V m c main_v5 (ix2 0 ⟨512 * (t.val / 18) + (y 1).val, row_lt t (y 1)⟩) := by
  unfold iblk
  blk_ext [idx6 t]
theorem iblk7_apply (c : Dev nD) (t : Fin cfg0.N) (y : S1x512.Idx) :
    (iblk m c 7 t : Vec F S1x512 .i32) y = V m c main_v6 (ix2 0 ⟨512 * (t.val / 18) + (y 1).val, row_lt t (y 1)⟩) := by
  unfold iblk
  blk_ext [idx7 t]

/-- The input blocks of grid point `t`, by name and at their shapes. -/
abbrev bZa (c : Dev nD) (t : Fin cfg0.N) : Vec F S1 .i32 := iblk m c 0 t
abbrev bZc (c : Dev nD) (t : Fin cfg0.N) : Vec F S1 .i32 := iblk m c 1 t
abbrev bX (c : Dev nD) (t : Fin cfg0.N) : Vec F S512x2560 .i8 := iblk m c 2 t
abbrev bWt (c : Dev nD) (t : Fin cfg0.N) : Vec F S512x2560 .i8 := iblk m c 3 t
abbrev bZb (c : Dev nD) (t : Fin cfg0.N) : Vec F S1x512 .i32 := iblk m c 4 t
abbrev bBias (c : Dev nD) (t : Fin cfg0.N) : Vec F S1x512 .i32 := iblk m c 5 t
abbrev bM (c : Dev nD) (t : Fin cfg0.N) : Vec F S1x512 .i32 := iblk m c 6 t
abbrev bS (c : Dev nD) (t : Fin cfg0.N) : Vec F S1x512 .i32 := iblk m c 7 t

/-- Between two points of one column block every operand block but `x`'s is the same. -/
theorem steady (c : Dev nD) (t t' : Fin cfg0.N) (h : t'.val / 18 = t.val / 18) :
    bZa m c t' = bZa m c t ∧ bZc m c t' = bZc m c t ∧ bWt m c t' = bWt m c t ∧ bZb m c t' = bZb m c t
      ∧ bBias m c t' = bBias m c t ∧ bM m c t' = bM m c t ∧ bS m c t' = bS m c t := by
  refine ⟨?_, ?_, ?_, ?_, ?_, ?_, ?_⟩ <;> funext y
  · exact (iblk0_apply m c t' y).trans (iblk0_apply m c t y).symm
  · exact (iblk1_apply m c t' y).trans (iblk1_apply m c t y).symm
  · refine (iblk3_apply m c t' y).trans (Eq.trans ?_ (iblk3_apply m c t y).symm); simp only [h]
  · refine (iblk4_apply m c t' y).trans (Eq.trans ?_ (iblk4_apply m c t y).symm); simp only [h]
  · refine (iblk5_apply m c t' y).trans (Eq.trans ?_ (iblk5_apply m c t y).symm); simp only [h]
  · refine (iblk6_apply m c t' y).trans (Eq.trans ?_ (iblk6_apply m c t y).symm); simp only [h]
  · refine (iblk7_apply m c t' y).trans (Eq.trans ?_ (iblk7_apply m c t y).symm); simp only [h]

/-! ## What the scratch buffers hold -/

theorem xpt_lt (r : Fin 9216) : r.val / 512 < cfg0.N := by rw [show cfg0.N = 360 from N_0]; omega

/-- The centred rows of `x`, whole: row `r` as the point `r / 512` stores it. -/
def xbAll (c : Dev nD) : Vec F S9216x2560 .bf16 := fun y =>
  k0_pay2 (bX m c ⟨(y 0).val / 512, xpt_lt (y 0)⟩) (ix2 ⟨(y 0).val % 512, Nat.mod_lt _ (by decide)⟩ (y 1))
/-- The row sums of the centred rows, whole. -/
def rsAll (c : Dev nD) : Vec F S9216x128 .i32 := fun y =>
  k0_pay3 (bX m c ⟨(y 0).val / 512, xpt_lt (y 0)⟩) (ix2 ⟨(y 0).val % 512, Nat.mod_lt _ (by decide)⟩ (y 1))
/-- The integer parameter rows, the float parameter rows and the path flag of point `t`'s column block. -/
def pIp (c : Dev nD) (t : Fin cfg0.N) (old : Vec F S8x512 .i32) : Vec F S8x512 .i32 :=
  ipOf (bZa m c t) (bZc m c t) (bWt m c t) (bZb m c t) (bBias m c t) (bM m c t) (bS m c t) old
def pFp (c : Dev nD) (t : Fin cfg0.N) (old : Vec F S8x512 .f32) : Vec F S8x512 .f32 :=
  fpOf (bZc m c t) (bM m c t) (bS m c t) old
def pFlag (c : Dev nD) (t : Fin cfg0.N) : BitVec 1 :=
  flagOf (bZa m c t) (bZc m c t) (bZb m c t) (bBias m c t) (bM m c t) (bS m c t)

/-- The output block point `t` stores, of the whole centred rows and its column block's parameters. -/
def outAt (c : Dev nD) (t : Fin cfg0.N) : Vec F S512x512 .i8 :=
  outPut (grid0.coords t) (bZc m c t) (bM m c t) (bS m c t) (fun _ => 0#8) (xbAll m c) (rsAll m c) (k0_pay11 (bWt m c t))
    (pIp m c t (fun _ => 0#32)) (pFp m c t (fun _ => FloatOps.ofBits .f32 0#32)) (pFlag m c t)

/-! ## Stores into rows -/

/-- A store of one whole row of an 8-row buffer. -/
theorem put_row {α : Type} (X : S8x512.Idx → α) (r : ℕ) (w : S1x512.Idx → α) (y : S8x512.Idx) :
    VecWindow.put X ![r, 0] S1x512.size w y = if (y 0).val = r then w (ix2 0 (y 1)) else X y := by
  have h1 : (y 1).val < 512 := (y 1).isLt
  unfold VecWindow.put
  by_cases h : (y 0).val = r
  · rw [if_pos h, dif_pos]
    · congr 1; funext a; fin_cases a
      · exact Fin.ext (by show (y 0).val - r = 0; omega)
      · exact Fin.ext (by show (y 1).val - 0 = (y 1).val; omega)
    · intro a; fin_cases a
      · show r ≤ (y 0).val ∧ (y 0).val < r + 1; omega
      · show 0 ≤ (y 1).val ∧ (y 1).val < 0 + 512; omega
  · rw [if_neg h, dif_neg]
    intro hh; have h0 : r ≤ (y 0).val ∧ (y 0).val < r + 1 := hh 0; omega

/-- Rows 0 to 6 of the integer parameters do not depend on what was there before. -/
theorem ipOf_congr (X2 X3 : Vec F S1 .i32) (X5 : Vec F S512x2560 .i8) (X6 X7 X8 X9 : Vec F S1x512 .i32) (old old' : Vec F S8x512 .i32)
    (y : S8x512.Idx) (h : (y 0).val < 7) : ipOf X2 X3 X5 X6 X7 X8 X9 old y = ipOf X2 X3 X5 X6 X7 X8 X9 old' y := by
  unfold ipOf
  repeat rw [put_row]
  split_ifs <;> first | rfl | omega
/-- Rows 0 to 2 of the float parameters do not depend on what was there before. -/
theorem fpOf_congr (X3 : Vec F S1 .i32) (X8 X9 : Vec F S1x512 .i32) (old old' : Vec F S8x512 .f32)
    (y : S8x512.Idx) (h : (y 0).val < 3) : fpOf X3 X8 X9 old y = fpOf X3 X8 X9 old' y := by
  unfold fpOf
  repeat rw [put_row]
  split_ifs <;> first | rfl | omega

/-- The two stored halves cover the block. -/
theorem halves_congr (old old' : Vec F S512x512 .i8) (lo hi : IVec S256x512 8) : halves old lo hi = halves old' lo hi := by
  funext y
  have h0 : (y 0).val < 512 := (y 0).isLt
  have h1 : (y 1).val < 512 := (y 1).isLt
  unfold halves VecWindow.put
  by_cases h : 256 ≤ (y 0).val
  · have hc : ∀ a, (![256, 0] : Fin 2 → ℕ) a ≤ (y a).val ∧ (y a).val < (![256, 0] : Fin 2 → ℕ) a + S256x512.size a := by
      intro a; fin_cases a
      · show 256 ≤ (y 0).val ∧ (y 0).val < 256 + 256; omega
      · show 0 ≤ (y 1).val ∧ (y 1).val < 0 + 512; omega
    rw [dif_pos hc, dif_pos hc]
  · have hc : ¬ ∀ a, (![256, 0] : Fin 2 → ℕ) a ≤ (y a).val ∧ (y a).val < (![256, 0] : Fin 2 → ℕ) a + S256x512.size a := fun hh => by
      have : 256 ≤ (y 0).val ∧ _ := hh 0; omega
    have hd : ∀ a, (![0, 0] : Fin 2 → ℕ) a ≤ (y a).val ∧ (y a).val < (![0, 0] : Fin 2 → ℕ) a + S256x512.size a := by
      intro a; fin_cases a
      · show 0 ≤ (y 0).val ∧ (y 0).val < 0 + 256; omega
      · show 0 ≤ (y 1).val ∧ (y 1).val < 0 + 512; omega
    rw [dif_neg hc, dif_neg hc, dif_pos hd, dif_pos hd]

/-! ## The output block is a function of the rows the invariant speaks of -/

/-- Two buffers that agree on the rows below `K` have the same windows there. -/
theorem win_congr {n C : ℕ} {e : EltTy} (X X' : Vec F (⟨2, ![n, C]⟩ : Shape) e) (K : ℕ)
    (h : ∀ y : (⟨2, ![n, C]⟩ : Shape).Idx, (y 0).val < K → X y = X' y) (off size : Fin 2 → ℕ)
    (inb : ∀ a, off a + size a ≤ (⟨2, ![n, C]⟩ : Shape).size a) (hK : off 0 + size 0 ≤ K) : win X off size inb = win X' off size inb := by
  funext j
  refine h _ ?_
  have h0 : (j 0).val < size 0 := (j 0).isLt
  show off 0 + 1 * (j 0).val < K
  omega

section Bounds
theorem b3 : ∀ t : Fin cfg0.N, k0_off3 (grid0.coords t) 0#32 0 + 256 ≤ 512 * (t.val + 1) := by decide +kernel
theorem b4 : ∀ t : Fin cfg0.N, k0_off4 (grid0.coords t) 0#32 0 + 256 ≤ 512 * (t.val + 1) := by decide +kernel
theorem b5 : ∀ t : Fin cfg0.N, k0_off5 (grid0.coords t) 0#32 0 + 256 ≤ 512 * (t.val + 1) := by decide +kernel
theorem b6 : ∀ t : Fin cfg0.N, k0_off6 (grid0.coords t) 0#32 0 + 256 ≤ 512 * (t.val + 1) := by decide +kernel
theorem b7 : ∀ t : Fin cfg0.N, k0_off7 (grid0.coords t) 0#32 0 + 256 ≤ 512 * (t.val + 1) := by decide +kernel
theorem b8 : ∀ t : Fin cfg0.N, k0_off8 (grid0.coords t) 0#32 0 + 256 ≤ 512 * (t.val + 1) := by decide +kernel
theorem b9 : ∀ t : Fin cfg0.N, k0_off9 (grid0.coords t) 0#32 0 + 256 ≤ 512 * (t.val + 1) := by decide +kernel
theorem b10 : ∀ t : Fin cfg0.N, k0_off10 (grid0.coords t) 0#32 0 + 256 ≤ 512 * (t.val + 1) := by decide +kernel
theorem b3' : ∀ t : Fin cfg0.N, k0_off3 (grid0.coords t) 256#32 0 + 256 ≤ 512 * (t.val + 1) := by decide +kernel
theorem b4' : ∀ t : Fin cfg0.N, k0_off4 (grid0.coords t) 256#32 0 + 256 ≤ 512 * (t.val + 1) := by decide +kernel
theorem b5' : ∀ t : Fin cfg0.N, k0_off5 (grid0.coords t) 256#32 0 + 256 ≤ 512 * (t.val + 1) := by decide +kernel
theorem b6' : ∀ t : Fin cfg0.N, k0_off6 (grid0.coords t) 256#32 0 + 256 ≤ 512 * (t.val + 1) := by decide +kernel
theorem b7' : ∀ t : Fin cfg0.N, k0_off7 (grid0.coords t) 256#32 0 + 256 ≤ 512 * (t.val + 1) := by decide +kernel
theorem b8' : ∀ t : Fin cfg0.N, k0_off8 (grid0.coords t) 256#32 0 + 256 ≤ 512 * (t.val + 1) := by decide +kernel
theorem b9' : ∀ t : Fin cfg0.N, k0_off9 (grid0.coords t) 256#32 0 + 256 ≤ 512 * (t.val + 1) := by decide +kernel
theorem b10' : ∀ t : Fin cfg0.N, k0_off10 (grid0.coords t) 256#32 0 + 256 ≤ 512 * (t.val + 1) := by decide +kernel
end Bounds

/-- The output block depends on the centred rows and row sums below the point's own last row, on integer parameter rows 0 to 6,
    on float parameter rows 0 to 2, and not on what the block held. -/
theorem outPut_congr (t : Fin cfg0.N) (X3 : Vec F S1 .i32) (X8 X9 : Vec F S1x512 .i32) (X10 X10' : Vec F S512x512 .i8)
    (X11 X11' : Vec F S9216x2560 .bf16) (X12 X12' : Vec F S9216x128 .i32) (X13 : Vec F S512x2560 .bf16)
    (X14 X14' : Vec F S8x512 .i32) (X15 X15' : Vec F S8x512 .f32) (b : BitVec 1)
    (hX : ∀ y : S9216x2560.Idx, (y 0).val < 512 * (t.val + 1) → X11 y = X11' y)
    (hR : ∀ y : S9216x128.Idx, (y 0).val < 512 * (t.val + 1) → X12 y = X12' y)
    (hI : ∀ y : S8x512.Idx, (y 0).val < 7 → X14 y = X14' y) (hF : ∀ y : S8x512.Idx, (y 0).val < 3 → X15 y = X15' y) :
    outPut (grid0.coords t) X3 X8 X9 X10 X11 X12 X13 X14 X15 b = outPut (grid0.coords t) X3 X8 X9 X10' X11' X12' X13 X14' X15' b := by
  have wX := fun off size inb h => win_congr X11 X11' (512 * (t.val + 1)) hX off size inb h
  have wR := fun off size inb h => win_congr X12 X12' (512 * (t.val + 1)) hR off size inb h
  have wI := fun off size inb h => win_congr X14 X14' 7 hI off size inb h
  have wF := fun off size inb h => win_congr X15 X15' 3 hF off size inb h
  unfold outPut
  rw [halves_congr X10 X10', halves_congr X10 X10']
  have e1 : fastLo (grid0.coords t) X11 X12 X13 X14 X15 = fastLo (grid0.coords t) X11' X12' X13 X14' X15' := by
    unfold fastLo
    rw [wX _ _ _ (b3 t), wX _ _ _ (b4 t), wX _ _ _ (b5 t), wR _ _ _ (b6 t), wI ![0, 0] _ _ (by decide), wI ![1, 0] _ _ (by decide),
      wI ![2, 0] _ _ (by decide), wI ![3, 0] _ _ (by decide), wI ![4, 0] _ _ (by decide), wI ![5, 0] _ _ (by decide),
      wF ![0, 0] _ _ (by decide), wF ![1, 0] _ _ (by decide), wF ![2, 0] _ _ (by decide)]
  have e2 : fastHi (grid0.coords t) X11 X12 X13 X14 X15 = fastHi (grid0.coords t) X11' X12' X13 X14' X15' := by
    unfold fastHi
    rw [wX _ _ _ (b3' t), wX _ _ _ (b4' t), wX _ _ _ (b5' t), wR _ _ _ (b6' t), wI ![0, 0] _ _ (by decide), wI ![1, 0] _ _ (by decide),
      wI ![2, 0] _ _ (by decide), wI ![3, 0] _ _ (by decide), wI ![4, 0] _ _ (by decide), wI ![5, 0] _ _ (by decide),
      wF ![0, 0] _ _ (by decide), wF ![1, 0] _ _ (by decide), wF ![2, 0] _ _ (by decide)]
  have e3 : slowLo (grid0.coords t) X3 X8 X9 X11 X12 X13 X14 = slowLo (grid0.coords t) X3 X8 X9 X11' X12' X13 X14' := by
    unfold slowLo slowAcc
    rw [wX _ _ _ (b7 t), wX _ _ _ (b8 t), wX _ _ _ (b9 t), wR _ _ _ (b10 t), wI ![0, 0] _ _ (by decide), wI ![6, 0] _ _ (by decide)]
  have e4 : slowHi (grid0.coords t) X3 X8 X9 X11 X12 X13 X14 = slowHi (grid0.coords t) X3 X8 X9 X11' X12' X13 X14' := by
    unfold slowHi
    rw [wX _ _ _ (b7' t), wX _ _ _ (b8' t), wX _ _ _ (b9' t), wR _ _ _ (b10' t), wI ![0, 0] _ _ (by decide), wI ![6, 0] _ _ (by decide)]
  rw [e1, e2, e3, e4]

/-! ## The invariant -/

/-- Before point `k`: the centred rows and the row sums of the row blocks met so far, and the parameters of the column block of the
    point before. -/
def Inv (c : Dev nD) (k : ℕ) (X11 : Vec F S9216x2560 .bf16) (X12 : Vec F S9216x128 .i32) (X13 : Vec F S512x2560 .bf16)
    (X14 : Vec F S8x512 .i32) (X15 : Vec F S8x512 .f32) (X16 : Vec F S1 .i32) : Prop :=
  (∀ y : S9216x2560.Idx, (y 0).val < 512 * k → X11 y = xbAll m c y)
    ∧ (∀ y : S9216x128.Idx, (y 0).val < 512 * k → X12 y = rsAll m c y)
    ∧ ∀ t : Fin cfg0.N, t.val + 1 = k → X13 = k0_pay11 (bWt m c t) ∧ (∃ old, X14 = pIp m c t old) ∧ (∃ old, X15 = pFp m c t old)
        ∧ X16 = fun _ => Scalar.extui (pFlag m c t)

/-- The centred rows after point `t`. -/
theorem aX_inv (c : Dev nD) (t : Fin cfg0.N) (X11 : Vec F S9216x2560 .bf16)
    (h : ∀ y : S9216x2560.Idx, (y 0).val < 512 * t.val → X11 y = xbAll m c y) (y : S9216x2560.Idx) (hy : (y 0).val < 512 * (t.val + 1)) :
    aX (grid0.coords t) (bX m c t) X11 y = xbAll m c y := by
  have h0 : (y 0).val < 9216 := (y 0).isLt
  have h1 : (y 1).val < 2560 := (y 1).isLt
  unfold aX
  by_cases ht : t.val < 18
  · rw [if_pos ((cond1 t).2 ht), off1 t, Nat.mod_eq_of_lt ht]
    unfold VecWindow.put
    by_cases hb : 512 * t.val ≤ (y 0).val
    · rw [dif_pos (show ∀ a, (![512 * t.val, 0] : Fin 2 → ℕ) a ≤ (y a).val ∧ (y a).val < (![512 * t.val, 0] : Fin 2 → ℕ) a + S512x2560.size a by
        intro a; fin_cases a
        · show 512 * t.val ≤ (y 0).val ∧ (y 0).val < 512 * t.val + 512; omega
        · show 0 ≤ (y 1).val ∧ (y 1).val < 0 + 2560; omega)]
      unfold xbAll
      have e : (⟨(y 0).val / 512, xpt_lt (y 0)⟩ : Fin cfg0.N) = t := Fin.ext (show (y 0).val / 512 = t.val by omega)
      rw [e]
      congr 1; funext a; fin_cases a
      · exact Fin.ext (by show (y 0).val - 512 * t.val = (y 0).val % 512; omega)
      · exact Fin.ext (by show (y 1).val - 0 = (y 1).val; omega)
    · rw [dif_neg (fun hh => hb (hh 0).1)]; exact h y (by omega)
  · rw [if_neg (fun hh => ht ((cond1 t).1 hh))]; exact h y (by omega)

/-- The row sums after point `t`. -/
theorem aR_inv (c : Dev nD) (t : Fin cfg0.N) (X12 : Vec F S9216x128 .i32)
    (h : ∀ y : S9216x128.Idx, (y 0).val < 512 * t.val → X12 y = rsAll m c y) (y : S9216x128.Idx) (hy : (y 0).val < 512 * (t.val + 1)) :
    aR (grid0.coords t) (bX m c t) X12 y = rsAll m c y := by
  have h0 : (y 0).val < 9216 := (y 0).isLt
  have h1 : (y 1).val < 128 := (y 1).isLt
  unfold aR
  by_cases ht : t.val < 18
  · rw [if_pos ((cond1 t).2 ht), off2 t, Nat.mod_eq_of_lt ht]
    unfold VecWindow.put
    by_cases hb : 512 * t.val ≤ (y 0).val
    · rw [dif_pos (show ∀ a, (![512 * t.val, 0] : Fin 2 → ℕ) a ≤ (y a).val ∧ (y a).val < (![512 * t.val, 0] : Fin 2 → ℕ) a + S512x128.size a by
        intro a; fin_cases a
        · show 512 * t.val ≤ (y 0).val ∧ (y 0).val < 512 * t.val + 512; omega
        · show 0 ≤ (y 1).val ∧ (y 1).val < 0 + 128; omega)]
      unfold rsAll
      have e : (⟨(y 0).val / 512, xpt_lt (y 0)⟩ : Fin cfg0.N) = t := Fin.ext (show (y 0).val / 512 = t.val by omega)
      rw [e]
      congr 1; funext a; fin_cases a
      · exact Fin.ext (by show (y 0).val - 512 * t.val = (y 0).val % 512; omega)
      · exact Fin.ext (by show (y 1).val - 0 = (y 1).val; omega)
    · rw [dif_neg (fun hh => hb (hh 0).1)]; exact h y (by omega)
  · rw [if_neg (fun hh => ht ((cond1 t).1 hh))]; exact h y (by omega)

/-- The parameters after point `t` are its own column block's: computed there when its row block is the first, and otherwise the
    point before's, whose column block is the same. -/
theorem par_inv (c : Dev nD) (t : Fin cfg0.N) (X11 : Vec F S9216x2560 .bf16) (X12 : Vec F S9216x128 .i32) (X13 : Vec F S512x2560 .bf16)
    (X14 : Vec F S8x512 .i32) (X15 : Vec F S8x512 .f32) (X16 : Vec F S1 .i32) (h : Inv m c t.val X11 X12 X13 X14 X15 X16) :
    bW (grid0.coords t) (bWt m c t) X13 = k0_pay11 (bWt m c t)
      ∧ (∃ old, bI (grid0.coords t) (bZa m c t) (bZc m c t) (bWt m c t) (bZb m c t) (bBias m c t) (bM m c t) (bS m c t) X14 = pIp m c t old)
      ∧ (∃ old, bF (grid0.coords t) (bZc m c t) (bM m c t) (bS m c t) X15 = pFp m c t old)
      ∧ (¬ isM0 (grid0.coords t) → X16 = fun _ => Scalar.extui (pFlag m c t)) := by
  unfold bW bI bF
  by_cases ht : t.val % 18 = 0
  · have hm := (isM0_iff t).2 ht
    rw [if_pos hm, if_pos hm, if_pos hm]
    exact ⟨rfl, ⟨_, rfl⟩, ⟨_, rfl⟩, fun hn => absurd hm hn⟩
  · have hm : ¬ isM0 (grid0.coords t) := fun hh => ht ((isM0_iff t).1 hh)
    rw [if_neg hm, if_neg hm, if_neg hm]
    have hlt := lt_N t
    obtain ⟨e1, ⟨o1, e2⟩, ⟨o2, e3⟩, e4⟩ := h.2.2 ⟨t.val - 1, lt_of_lt_of_eq (show t.val - 1 < 360 by omega) N_0.symm⟩ (show t.val - 1 + 1 = t.val by omega)
    obtain ⟨s0, s1, s3, s4, s5, s6, s7⟩ := steady m c t ⟨t.val - 1, lt_of_lt_of_eq (show t.val - 1 < 360 by omega) N_0.symm⟩
      (show (t.val - 1) / 18 = t.val / 18 by omega)
    unfold pIp at e2 ⊢; unfold pFp at e3 ⊢; unfold pFlag at e4 ⊢
    rw [s3] at e1; rw [s0, s1, s3, s4, s5, s6, s7] at e2; rw [s1, s6, s7] at e3; rw [s0, s1, s4, s5, s6, s7] at e4
    exact ⟨e1, ⟨o1, e2⟩, ⟨o2, e3⟩, fun _ => e4⟩

/-! ## The proof data and the body at every point -/

/-- What the core holds between points: the six scratch buffers at contents the invariant allows, and the random-number register. -/
def PhiS (c : Dev nD) (k : ℕ) (_ : k ≤ cfg0.N) : sProp 𝕄 :=
  iprop(∃ X11 : Vec F S9216x2560 .bf16, ∃ X12 : Vec F S9216x128 .i32, ∃ X13 : Vec F S512x2560 .bf16, ∃ X14 : Vec F S8x512 .i32,
    ∃ X15 : Vec F S8x512 .f32, ∃ X16 : Vec F S1 .i32, ⌜Inv m c k X11 X12 X13 X14 X15 X16⌝
    ∗ owns (c : Thread nD τ) (Memref.whole cc0_scratch0) fullShare X11 ∗ owns (c : Thread nD τ) (Memref.whole cc0_scratch1) fullShare X12
    ∗ owns (c : Thread nD τ) (Memref.whole cc0_scratch2) fullShare X13 ∗ owns (c : Thread nD τ) (Memref.whole cc0_scratch3) fullShare X14
    ∗ owns (c : Thread nD τ) (Memref.whole cc0_scratch4) fullShare X15 ∗ owns (c : Thread nD τ) (Memref.whole cc0_scratch5) fullShare X16
    ∗ ∃ r, prngReg c r)

/-- The pipeline's proof data: inputs left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = outAt m c t := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body at any point keeps the invariant and leaves `outAt` in the output's staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, after0_8]
  unfold PhiS
  iintro ⟨⟨%X11, %X12, %X13, %X14, %X15, %X16, %hI, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨p1, ⟨o1, p2⟩, ⟨o2, p3⟩, p4⟩ := par_inv m c t X11 X12 X13 X14 X15 X16 hI
  have hX := aX_inv m c t X11 hI.1
  have hR := aR_inv m c t X12 hI.2.1
  iapply (wp_body (grid0.coords t) _ _ _ _ _ _ _ _ _ _ _ _ _ _ _ _ _ _ _ _ _ _ _ _ _ _ _ _ _ _ c (pFlag m c t) (bZa m c t) (bZc m c t) (bX m c t) (bWt m c t) (bZb m c t) (bBias m c t) (bM m c t) (bS m c t)
    ((dats m 0 c).before 8 t d8) X11 X12 X13 X14 X15 X16 (fun _ => rfl) p4 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  have hout : outPut (grid0.coords t) (bZc m c t) (bM m c t) (bS m c t) ((dats m 0 c).before 8 t d8) (aX (grid0.coords t) (bX m c t) X11)
      (aR (grid0.coords t) (bX m c t) X12) (bW (grid0.coords t) (bWt m c t) X13)
      (bI (grid0.coords t) (bZa m c t) (bZc m c t) (bWt m c t) (bZb m c t) (bBias m c t) (bM m c t) (bS m c t) X14)
      (bF (grid0.coords t) (bZc m c t) (bM m c t) (bS m c t) X15) (pFlag m c t) = outAt m c t := by
    rw [p1, p2, p3]; unfold outAt
    exact outPut_congr t _ _ _ _ _ _ _ _ _ _ _ _ _ _ _ hX hR (fun y hy => ipOf_congr _ _ _ _ _ _ _ _ _ y hy) (fun y hy => fpOf_congr _ _ _ _ _ y hy)
  rw [hout]
  isplitl [S0 S1 S2 S3 S4 S5 Hg]
  · iexists _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact Hg
    ipureintro
    refine ⟨hX, hR, fun t' ht' => ?_⟩
    obtain rfl : t' = t := Fin.ext (by omega)
    exact ⟨p1, ⟨o1, p2⟩, ⟨o2, p3⟩, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Entering the region: the scratch buffers at whatever they hold, nothing claimed of them. -/
theorem Phi_in (c : Dev nD) : Pipeline.ΦA spec0 c ⊢ (dats m 0 c).Φ 0 := by
  rw [show (dats m 0 c).Φ 0 = PhiS m c 0 (Nat.zero_le _) from by dsimp only [dats]; rfl]
  unfold Pipeline.ΦA PhiS
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, Hg⟩
  iexists f0, f1, f2, f3, f4, f5
  isplitr
  swap
  · isplitl [S0]; · iexact S0
    isplitl [S1]; · iexact S1
    isplitl [S2]; · iexact S2
    isplitl [S3]; · iexact S3
    isplitl [S4]; · iexact S4
    isplitl [S5]; · iexact S5
    iexact Hg
  ipureintro
  exact ⟨fun y hy => absurd hy (by omega), fun y hy => absurd hy (by omega), fun t ht => absurd ht (by omega)⟩

/-- Leaving the region: the scratch buffers are given back. -/
theorem Phi_out (c : Dev nD) : (dats m 0 c).Φ (Fin.last cfg0.N) ⊢ Pipeline.ΦA spec0 c := by
  rw [show (dats m 0 c).Φ (Fin.last cfg0.N) = PhiS m c cfg0.N le_rfl from by dsimp only [dats]; rfl]
  unfold Pipeline.ΦA PhiS
  rw [scopedRest0_eq]
  simp only [owns_whole]
  iintro ⟨%X11, %X12, %X13, %X14, %X15, %X16, -, S0, S1, S2, S3, S4, S5, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- Every fair run terminates, every array ends at what the proof data says, and every counter is back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The frame: every fair run terminates without fault, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (frame_of m ρ (dats m) (A_eq m)) (run_main m ρ)

end Cert.Proof.KB

end
-- ==== Proof.KernelIdealBody.lean ====
module

public import proofs.«01_k».proof.Proof.Gen.KernelIdeal.Frame
public import proofs.«01_k».proof.Proof.Gen.KernelIdeal.Skeleton
public import Idealize.ShloMosaic.Lib.VecWindow
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body's programs. -/
abbrev PP (F : FTy → Type) : Type 1 := Prog (TpuEff nD τ sig (Elt F) Λ₀ .tc) PUnit.{1}

/-! ## What the stages store, as functions of what the buffers hold -/

/-- The only index of a one-element vector. -/
abbrev z1 : S1.Idx := Shape.Idx.first (by decide)

/-- The parameters the column-block set-up computes from one block of each operand, in the order the kernel computes them. -/
def parA (X2 : Vec F S1 .i32) (X5 : Vec F S512x2560 .i8) (X6 X7 : Vec F S1x512 .i32) : IVec S1x512 32 :=
  k0_pay17 X5 (X2 z1) X6 X7
def parC0 (X3 : Vec F S1 .i32) (X8 X9 : Vec F S1x512 .i32) : IVec S1x512 32 :=
  k0_pay25 (X3 z1) (k0_pay14 X8) (k0_pay20 (k0_pay15 X9)) (k0_pay22 (k0_pay15 X9))

/-- The 8-row integer parameter buffer after the set-up: rows 0 to 6 stored, row 7 as it was. -/
def ipOf (X2 X3 : Vec F S1 .i32) (X5 : Vec F S512x2560 .i8) (X6 X7 X8 X9 : Vec F S1x512 .i32) (old : Vec F S8x512 .i32) : Vec F S8x512 .i32 :=
  VecWindow.put (VecWindow.put (VecWindow.put (VecWindow.put (VecWindow.put (VecWindow.put (VecWindow.put old
    ![0, 0] S1x512.size (k0_pay26 (k0_pay16 X6)))
    ![1, 0] S1x512.size (k0_pay27 (X3 z1) (k0_pay14 X8) (parA X2 X5 X6 X7) (k0_pay22 (k0_pay15 X9))))
    ![2, 0] S1x512.size (k0_pay28 (X3 z1) (k0_pay14 X8) (k0_pay22 (k0_pay15 X9))))
    ![3, 0] S1x512.size (k0_pay29 (k0_pay14 X8)))
    ![4, 0] S1x512.size (k0_pay30 (X3 z1) (k0_pay14 X8) (k0_pay20 (k0_pay15 X9)) (k0_pay22 (k0_pay15 X9))))
    ![5, 0] S1x512.size (k0_pay4 (parC0 X3 X8 X9)))
    ![6, 0] S1x512.size (k0_pay5 (parA X2 X5 X6 X7))

/-- The 8-row float parameter buffer after the set-up: rows 0 to 2 stored, the rest as it was. -/
def fpOf (X3 : Vec F S1 .i32) (X8 X9 : Vec F S1x512 .i32) (old : Vec F S8x512 .f32) : Vec F S8x512 .f32 :=
  VecWindow.put (VecWindow.put (VecWindow.put old
    ![0, 0] S1x512.size (k0_pay6 (k0_pay21 (k0_pay15 X9)) (k0_pay23 (k0_pay14 X8))))
    ![1, 0] S1x512.size (k0_pay7 (k0_pay21 (k0_pay15 X9))))
    ![2, 0] S1x512.size (k0_pay8 (k0_pay21 (k0_pay15 X9)) (parC0 X3 X8 X9))

/-- The flag the set-up stores, as a bit: every column of the block and both scalar zero points are in the fast path's range. -/
def flagOf (X2 X3 : Vec F S1 .i32) (X6 X7 X8 X9 : Vec F S1x512 .i32) : BitVec 1 :=
  Scalar.andi (Scalar.andi (Scalar.andi (Scalar.andi
    (Scalar.cmpi .eq (extractAt ![0, 0, 0] (k0_pay19 (k0_pay12 X6) (k0_pay13 X7) (k0_pay14 X8) (k0_pay15 X9) (k0_pay18 X9)) inpos_S1x1x1_p0_0_0) 1#32)
    (Scalar.cmpi .sge (X2 z1) 0#32)) (Scalar.cmpi .sle (X2 z1) 255#32))
    (Scalar.cmpi .sge (X3 z1) 0#32)) (Scalar.cmpi .sle (X3 z1) 255#32)

/-- A unit-stride window of `X`. -/
abbrev win {S : Shape} {e : EltTy} (X : Vec F S e) (off size : Fin S.rank → ℕ) (inb : ∀ a, off a + size a ≤ S.size a) :
    (Rect.unit off size inb).shape.Idx → Elt F e := View.ld (Val := Elt F) X (Rect.unit off size inb)

/-- The fast path's first 256 rows at grid point `i`. -/
def fastLo (i : grid0.Coords) (X11 : Vec F S9216x2560 .bf16) (X12 : Vec F S9216x128 .i32) (X13 : Vec F S512x2560 .bf16)
    (X14 : Vec F S8x512 .i32) (X15 : Vec F S8x512 .f32) : IVec S256x512 8 :=
  k0_pay33
    (k0_pay31 (win X11 (k0_off3 i 0#32) S256x1024.size (k0_off3_inb i 0)) (win X13 ![0, 0] S512x1024.size inb_S512x2560_S512x1024_0_0)
      (win X11 (k0_off4 i 0#32) S256x1024.size (k0_off4_inb i 0)) (win X13 ![0, 1024] S512x1024.size inb_S512x2560_S512x1024_0_1024)
      (win X11 (k0_off5 i 0#32) S256x512.size (k0_off5_inb i 0)) (win X13 ![0, 2048] S512x512.size inb_S512x2560_S512x512_0_2048)
      (win X12 (k0_off6 i 0#32) S256x128.size (k0_off6_inb i 0)) (win X14 ![0, 0] S1x512.size inb_S8x512_S1x512_0_0) (win X14 ![1, 0] S1x512.size inb_S8x512_S1x512_1_0))
    (k0_pay32 (win X11 (k0_off3 i 0#32) S256x1024.size (k0_off3_inb i 0)) (win X13 ![0, 0] S512x1024.size inb_S512x2560_S512x1024_0_0)
      (win X11 (k0_off4 i 0#32) S256x1024.size (k0_off4_inb i 0)) (win X13 ![0, 1024] S512x1024.size inb_S512x2560_S512x1024_0_1024)
      (win X11 (k0_off5 i 0#32) S256x512.size (k0_off5_inb i 0)) (win X13 ![0, 2048] S512x512.size inb_S512x2560_S512x512_0_2048)
      (win X12 (k0_off6 i 0#32) S256x128.size (k0_off6_inb i 0)) (win X14 ![0, 0] S1x512.size inb_S8x512_S1x512_0_0) (win X14 ![1, 0] S1x512.size inb_S8x512_S1x512_1_0)
      (win X14 ![3, 0] S1x512.size inb_S8x512_S1x512_3_0))
    (win X14 ![2, 0] S1x512.size inb_S8x512_S1x512_2_0) (win X14 ![4, 0] S1x512.size inb_S8x512_S1x512_4_0) (win X14 ![5, 0] S1x512.size inb_S8x512_S1x512_5_0)
    (win X15 ![0, 0] S1x512.size inb_S8x512_S1x512_0_0) (win X15 ![1, 0] S1x512.size inb_S8x512_S1x512_1_0) (win X15 ![2, 0] S1x512.size inb_S8x512_S1x512_2_0)

/-- The fast path's last 256 rows at grid point `i`. -/
def fastHi (i : grid0.Coords) (X11 : Vec F S9216x2560 .bf16) (X12 : Vec F S9216x128 .i32) (X13 : Vec F S512x2560 .bf16)
    (X14 : Vec F S8x512 .i32) (X15 : Vec F S8x512 .f32) : IVec S256x512 8 :=
  k0_pay9
    (k0_pay34 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0))
    (k0_pay35 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0)
      (win X14 ![3, 0] S1x512.size inb_S8x512_S1x512_3_0))
    (k0_pay36 (win X11 (k0_off3 i 256#32) S256x1024.size (k0_off3_inb i 1)) (win X13 ![0, 0] S512x1024.size inb_S512x2560_S512x1024_0_0)
      (constant S256x512 .f32 0x00000000#32)
      (win X11 (k0_off4 i 256#32) S256x1024.size (k0_off4_inb i 1)) (win X13 ![0, 1024] S512x1024.size inb_S512x2560_S512x1024_0_1024)
      (win X11 (k0_off5 i 256#32) S256x512.size (k0_off5_inb i 1)) (win X13 ![0, 2048] S512x512.size inb_S512x2560_S512x512_0_2048)
      (win X12 (k0_off6 i 256#32) S256x128.size (k0_off6_inb i 1)) (win X14 ![0, 0] S1x512.size inb_S8x512_S1x512_0_0) (win X14 ![1, 0] S1x512.size inb_S8x512_S1x512_1_0)
      (win X14 ![2, 0] S1x512.size inb_S8x512_S1x512_2_0))
    (k0_pay37 (win X14 ![4, 0] S1x512.size inb_S8x512_S1x512_4_0)) (k0_pay38 (win X14 ![5, 0] S1x512.size inb_S8x512_S1x512_5_0))
    (win X15 ![0, 0] S1x512.size inb_S8x512_S1x512_0_0) (win X15 ![1, 0] S1x512.size inb_S8x512_S1x512_1_0) (win X15 ![2, 0] S1x512.size inb_S8x512_S1x512_2_0)

/-- The exact path's accumulator, first 256 rows at grid point `i`. -/
def slowAcc (i : grid0.Coords) (X11 : Vec F S9216x2560 .bf16) (X12 : Vec F S9216x128 .i32) (X13 : Vec F S512x2560 .bf16)
    (X14 : Vec F S8x512 .i32) : IVec S256x512 32 :=
  k0_pay39 (win X11 (k0_off7 i 0#32) S256x1024.size (k0_off7_inb i 0)) (win X13 ![0, 0] S512x1024.size inb_S512x2560_S512x1024_0_0)
    (win X11 (k0_off8 i 0#32) S256x1024.size (k0_off8_inb i 0)) (win X13 ![0, 1024] S512x1024.size inb_S512x2560_S512x1024_0_1024)
    (win X11 (k0_off9 i 0#32) S256x512.size (k0_off9_inb i 0)) (win X13 ![0, 2048] S512x512.size inb_S512x2560_S512x512_0_2048)
    (win X12 (k0_off10 i 0#32) S256x128.size (k0_off10_inb i 0)) (win X14 ![0, 0] S1x512.size inb_S8x512_S1x512_0_0) (win X14 ![6, 0] S1x512.size inb_S8x512_S1x512_6_0)

/-- The exact path's requantization of an accumulator block, first 256 rows: multiplier `v50`, shift `v52`, zero point `v53`. -/
def slowLoR (v48 : IVec S256x512 32) (v50 v52 : IVec S1x512 32) (v53 : Elt F .i32) : IVec S256x512 8 :=
  k0_pay59 v53
    (k0_pay57 v52 (k0_pay42 v48) (k0_pay46 v48) (k0_pay52 v48 v50) (k0_pay53 v48 v50))
    (k0_pay58 v52 (k0_pay42 v48) (k0_pay46 v48) (k0_pay52 v48 v50) (k0_pay53 v48 v50))

/-- The exact path's first 256 rows at grid point `i`. -/
def slowLo (i : grid0.Coords) (X3 : Vec F S1 .i32) (X8 X9 : Vec F S1x512 .i32) (X11 : Vec F S9216x2560 .bf16) (X12 : Vec F S9216x128 .i32)
    (X13 : Vec F S512x2560 .bf16) (X14 : Vec F S8x512 .i32) : IVec S256x512 8 :=
  slowLoR (slowAcc i X11 X12 X13 X14) (k0_pay40 X8) (k0_pay41 X9) (X3 z1)

/-- The exact path's requantization of an accumulator block, last 256 rows: the accumulator comes as its three terms. -/
def slowHiR (v175 v178 v180 : IVec S256x512 32) (v183 v186 v188 : Vec F S1x512 .i32) (v190 : Elt F .i32) : IVec S256x512 8 :=
  k0_pay10 v190
    (k0_pay78 (k0_pay66 v175 v178 v180 v183) (k0_pay70 v175 v178 v180 v183) (k0_pay73 v175 v178 v180 v183 v186)
      (k0_pay74 v175 v178 v180 v183 v186) (k0_pay75 v175 v178 v180 v183 v186) (k0_pay76 v175 v178 v180 v183 v186) (k0_pay77 v175 v178 v180 v183 v186))
    (k0_pay79 (k0_pay65 v188)) (k0_pay80 (k0_pay65 v188))
    (k0_pay82 (k0_pay65 v188) (k0_pay66 v175 v178 v180 v183) (k0_pay70 v175 v178 v180 v183) (k0_pay73 v175 v178 v180 v183 v186)
      (k0_pay74 v175 v178 v180 v183 v186) (k0_pay75 v175 v178 v180 v183 v186) (k0_pay76 v175 v178 v180 v183 v186) (k0_pay77 v175 v178 v180 v183 v186))
    (k0_pay83 (k0_pay65 v188))

/-- The exact path's last 256 rows at grid point `i`. -/
def slowHi (i : grid0.Coords) (X3 : Vec F S1 .i32) (X8 X9 : Vec F S1x512 .i32) (X11 : Vec F S9216x2560 .bf16) (X12 : Vec F S9216x128 .i32)
    (X13 : Vec F S512x2560 .bf16) (X14 : Vec F S8x512 .i32) : IVec S256x512 8 :=
  slowHiR
    (k0_pay60 (win X11 (k0_off7 i 256#32) S256x1024.size (k0_off7_inb i 1)) (win X13 ![0, 0] S512x1024.size inb_S512x2560_S512x1024_0_0)
      (win X11 (k0_off8 i 256#32) S256x1024.size (k0_off8_inb i 1)) (win X13 ![0, 1024] S512x1024.size inb_S512x2560_S512x1024_0_1024)
      (win X11 (k0_off9 i 256#32) S256x512.size (k0_off9_inb i 1)) (win X13 ![0, 2048] S512x512.size inb_S512x2560_S512x512_0_2048))
    (k0_pay61 (win X12 (k0_off10 i 256#32) S256x128.size (k0_off10_inb i 1))) (k0_pay62 (win X14 ![0, 0] S1x512.size inb_S8x512_S1x512_0_0))
    (win X14 ![6, 0] S1x512.size inb_S8x512_S1x512_6_0) X8 X9 (X3 z1)

/-- A block of two 256-row halves stored over `old`. -/
def halves (old : Vec F S512x512 .i8) (lo hi : IVec S256x512 8) : Vec F S512x512 .i8 :=
  VecWindow.put (VecWindow.put old ![0, 0] S256x512.size lo) ![256, 0] S256x512.size hi

/-- The row-block index `m` is zero, as the kernel tests it. -/
abbrev isM0 (i : grid0.Coords) : Prop := (Scalar.cmpi .ne (Scalar.extui (Scalar.cmpi .eq (BitVec.ofNat 32 (i 1).val : BitVec 32) 0#32)) 0#32 : BitVec 1) = 1#1

/-- The scratch buffers after a grid point, from what they held before it: the centred `x` rows, the row sums, the centred `w` block and the parameter buffers. -/
def aX (i : grid0.Coords) (X4 : Vec F S512x2560 .i8) (X11 : Vec F S9216x2560 .bf16) : Vec F S9216x2560 .bf16 :=
  if k0_cond1 i = 1#1 then VecWindow.put X11 (k0_off1 i) S512x2560.size (k0_pay2 X4) else X11
def aR (i : grid0.Coords) (X4 : Vec F S512x2560 .i8) (X12 : Vec F S9216x128 .i32) : Vec F S9216x128 .i32 :=
  if k0_cond1 i = 1#1 then VecWindow.put X12 (k0_off2 i) S512x128.size (k0_pay3 X4) else X12
def bW (i : grid0.Coords) (X5 : Vec F S512x2560 .i8) (X13 : Vec F S512x2560 .bf16) : Vec F S512x2560 .bf16 :=
  if isM0 i then k0_pay11 X5 else X13
def bI (i : grid0.Coords) (X2 X3 : Vec F S1 .i32) (X5 : Vec F S512x2560 .i8) (X6 X7 X8 X9 : Vec F S1x512 .i32) (X14 : Vec F S8x512 .i32) : Vec F S8x512 .i32 :=
  if isM0 i then ipOf X2 X3 X5 X6 X7 X8 X9 X14 else X14
def bF (i : grid0.Coords) (X3 : Vec F S1 .i32) (X8 X9 : Vec F S1x512 .i32) (X15 : Vec F S8x512 .f32) : Vec F S8x512 .f32 :=
  if isM0 i then fpOf X3 X8 X9 X15 else X15

/-- The output block a grid point stores: the fast path's where the flag `b` is set, the exact path's where it is not. -/
def outPut (i : grid0.Coords) (X3 : Vec F S1 .i32) (X8 X9 : Vec F S1x512 .i32) (X10 : Vec F S512x512 .i8) (X11 : Vec F S9216x2560 .bf16) (X12 : Vec F S9216x128 .i32)
    (X13 : Vec F S512x2560 .bf16) (X14 : Vec F S8x512 .i32) (X15 : Vec F S8x512 .f32) (b : BitVec 1) : Vec F S512x512 .i8 :=
  if b = 1#1 then halves X10 (fastLo i X11 X12 X13 X14 X15) (fastHi i X11 X12 X13 X14 X15)
  else halves X10 (slowLo i X3 X8 X9 X11 X12 X13 X14) (slowHi i X3 X8 X9 X11 X12 X13 X14)

section Body

variable (i : grid0.Coords) (arg2 : Memref sig .tc .smem S1 .i32) (harg2 : arg2.IsWhole) (arg3 : Memref sig .tc .smem S1 .i32) (harg3 : arg3.IsWhole) (arg4 : Memref sig .tc .vmem S512x2560 .i8) (harg4 : arg4.IsWhole) (arg5 : Memref sig .tc .vmem S512x2560 .i8) (harg5 : arg5.IsWhole) (arg6 : Memref sig .tc .vmem S1x512 .i32) (harg6 : arg6.IsWhole) (arg7 : Memref sig .tc .vmem S1x512 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S512x512 .i8) (harg10 : arg10.IsWhole) (arg11 : Memref sig .tc .vmem S9216x2560 .bf16) (harg11 : arg11.IsWhole) (arg12 : Memref sig .tc .vmem S9216x128 .i32) (harg12 : arg12.IsWhole) (arg13 : Memref sig .tc .vmem S512x2560 .bf16) (harg13 : arg13.IsWhole) (arg14 : Memref sig .tc .vmem S8x512 .i32) (harg14 : arg14.IsWhole) (arg15 : Memref sig .tc .vmem S8x512 .f32) (harg15 : arg15.IsWhole) (arg16 : Memref sig .tc .smem S1 .i32) (harg16 : arg16.IsWhole)

/-- The prologue of a grid point: when `n = 0` it stores the centred block of `x` and its row sums, then `jp`. -/
def progA (jp : PUnit.{1} → PP F) : PP F := do
  if k0_h1 : k0_cond1 i = 1#1 then do
    let v16 : Vec F S512x2560 .i8 ← Prog.lift (.load arg4 (Rect.unit (s := S512x2560) ![0, 0] S512x2560.size inb_S512x2560_S512x2560_0_0).toLoadRect (View.loadsAt_vmem h_S512x2560))
    let v23 : Vec F S512x2560 .bf16 ← Prog.lift (.load arg11 (Rect.unit (s := S9216x2560) (k0_off1 i) S512x2560.size (k0_off1_inb i k0_h1)).toLoadRect (View.loadsAt_vmem h_S512x2560))
    Prog.lift (.store arg11 (Rect.unit (s := S9216x2560) (k0_off1 i) S512x2560.size (k0_off1_inb i k0_h1)) (k0_pay2 v16) Finset.univ (View.stores_vmem h_S512x2560 (harg11.storeExact_slice rfl _ (k0_off1_packedbf16 i k0_h1)) (fun _ => rfl)) (.inl rfl))
    let v31 : Vec F S512x128 .i32 ← Prog.lift (.load arg12 (Rect.unit (s := S9216x128) (k0_off2 i) S512x128.size (k0_off2_inb i k0_h1)).toLoadRect (View.loadsAt_vmem h_S512x128))
    Prog.lift (.store arg12 (Rect.unit (s := S9216x128) (k0_off2 i) S512x128.size (k0_off2_inb i k0_h1)) (k0_pay3 v16) Finset.univ (View.stores_vmem_bits_univ h_S512x128 rfl) (.inl rfl))
    jp ⟨⟩
  else do
    jp ⟨⟩

/-- The column-block set-up: when `m = 0` it stores the centred block of `w`, the per-column parameters and the path flag, then `jp`. -/
def progB (jp : PUnit.{1} → PP F) : PP F := do
  let arg1 : BitVec 32 := BitVec.ofNat 32 (i 1).val
  let v5 : BitVec 1 := Scalar.cmpi .eq arg1 0#32
  let v6 : BitVec 32 := Scalar.extui v5
  let v7 : BitVec 1 := Scalar.cmpi .ne v6 0#32
  if k0_h2 : v7 = 1#1 then do
    let ⟨v26, v27, v29, v31, v33, v35, v42, v49, v51⟩ : Σ' (v26 : Elt F .i32) (v27 : Elt F .i32) (v29 : IVec S1x512 32) (v31 : IVec S1x512 32) (v33 : IVec S1x512 32) (v35 : IVec S1x512 32) (v42 : IVec S1x512 32) (v49 : IVec S1x512 32), IVec S1x512 1 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
    let ⟨v83, v87, v92, v94⟩ : Σ' (v83 : BitVec 1) (v87 : IVec S1x512 32) (v92 : FVec F S1x512 .f32), IVec S1x512 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v26 v27 v29 v31 v33 v35 v51
    let ⟨v98, v117, v133⟩ : Σ' (v98 : FVec F S1x512 .f32) (v117 : IVec S1x512 32), IVec S1x512 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v33 v42 v49 v87 v94
    Prog.lift (.store arg14 (Rect.unit (s := S8x512) ![4, 0] S1x512.size inb_S8x512_S1x512_4_0) v133 Finset.univ (View.stores_vmem_bits_univ h_S1x512 rfl) (.inl rfl))
    let v136 : Vec F S1x512 .i32 ← Prog.lift (.load arg14 (Rect.unit (s := S8x512) ![5, 0] S1x512.size inb_S8x512_S1x512_5_0).toLoadRect (View.loadsAt_vmem h_S1x512))
    Prog.lift (.store arg14 (Rect.unit (s := S8x512) ![5, 0] S1x512.size inb_S8x512_S1x512_5_0) (k0_pay4 v117) Finset.univ (View.stores_vmem_bits_univ h_S1x512 rfl) (.inl rfl))
    let v139 : Vec F S1x512 .i32 ← Prog.lift (.load arg14 (Rect.unit (s := S8x512) ![6, 0] S1x512.size inb_S8x512_S1x512_6_0).toLoadRect (View.loadsAt_vmem h_S1x512))
    Prog.lift (.store arg14 (Rect.unit (s := S8x512) ![6, 0] S1x512.size inb_S8x512_S1x512_6_0) (k0_pay5 v49) Finset.univ (View.stores_vmem_bits_univ h_S1x512 rfl) (.inl rfl))
    let v143 : Vec F S1x512 .f32 ← Prog.lift (.load arg15 (Rect.unit (s := S8x512) ![0, 0] S1x512.size inb_S8x512_S1x512_0_0).toLoadRect (View.loadsAt_vmem h_S1x512))
    Prog.lift (.store arg15 (Rect.unit (s := S8x512) ![0, 0] S1x512.size inb_S8x512_S1x512_0_0) (k0_pay6 v92 v98) Finset.univ (View.stores_vmem_bits_univ h_S1x512 rfl) (.inl rfl))
    let v146 : Vec F S1x512 .f32 ← Prog.lift (.load arg15 (Rect.unit (s := S8x512) ![1, 0] S1x512.size inb_S8x512_S1x512_1_0).toLoadRect (View.loadsAt_vmem h_S1x512))
    Prog.lift (.store arg15 (Rect.unit (s := S8x512) ![1, 0] S1x512.size inb_S8x512_S1x512_1_0) (k0_pay7 v92) Finset.univ (View.stores_vmem_bits_univ h_S1x512 rfl) (.inl rfl))
    let v156 : Vec F S1x512 .f32 ← Prog.lift (.load arg15 (Rect.unit (s := S8x512) ![2, 0] S1x512.size inb_S8x512_S1x512_2_0).toLoadRect (View.loadsAt_vmem h_S1x512))
    Prog.lift (.store arg15 (Rect.unit (s := S8x512) ![2, 0] S1x512.size inb_S8x512_S1x512_2_0) (k0_pay8 v92 v117) Finset.univ (View.stores_vmem_bits_univ h_S1x512 rfl) (.inl rfl))
    let v159 : BitVec 32 := Scalar.extui v83
    let v160 : Elt F .i32 ← smemLoad arg16 (Rect.unit (s := S1) ![0] S1.size inb_S1_S1_0) numel1_S1 rfl
    Prog.lift (.store arg16 (Rect.unit (s := S1) ![0] S1.size inb_S1_S1_0) (fun _ => v159) Finset.univ (View.stores_smem_one rfl numel1_S1) (.inl rfl))
    jp ⟨⟩
  else do
    jp ⟨⟩

/-- The fast path, taken when the stored flag is 1, then `jp`. -/
def progC (jp : PUnit.{1} → PP F) : PP F := do
  let arg1 : BitVec 32 := BitVec.ofNat 32 (i 1).val
  let v8 : Elt F .i32 ← smemLoad arg16 (Rect.unit (s := S1) ![0] S1.size inb_S1_S1_0) numel1_S1 rfl
  let v9 : BitVec 1 := Scalar.cmpi .eq v8 1#32
  let v10 : BitVec 32 := Scalar.extui v9
  let v11 : BitVec 1 := Scalar.cmpi .ne v10 0#32
  if v11 = 1#1 then do
    let ⟨v48, v51, v52⟩ : Σ' (v48 : IVec S256x512 32) (v51 : IVec S256x512 32), Vec F S1x512 .i32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1
    let ⟨v87, v89, v90, cst_40⟩ : Σ' (v87 : BitVec 32) (v89 : Vec F S256x1024 .bf16) (v90 : Vec F S512x1024 .bf16), FVec F S256x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v48 v51 v52
    let ⟨v117, v120, v123, v127, v129⟩ : Σ' (v117 : IVec S256x512 32) (v120 : IVec S256x512 32) (v123 : IVec S256x512 1) (v127 : IVec S256x512 32), IVec S256x512 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 v87 v89 v90 cst_40
    let v133 : Vec F S1x512 .f32 ← Prog.lift (.load arg15 (Rect.unit (s := S8x512) ![0, 0] S1x512.size inb_S8x512_S1x512_0_0).toLoadRect (View.loadsAt_vmem h_S1x512))
    let v137 : Vec F S1x512 .f32 ← Prog.lift (.load arg15 (Rect.unit (s := S8x512) ![1, 0] S1x512.size inb_S8x512_S1x512_1_0).toLoadRect (View.loadsAt_vmem h_S1x512))
    let v145 : Vec F S1x512 .f32 ← Prog.lift (.load arg15 (Rect.unit (s := S8x512) ![2, 0] S1x512.size inb_S8x512_S1x512_2_0).toLoadRect (View.loadsAt_vmem h_S1x512))
    let v153 : Vec F S256x512 .i8 ← Prog.lift (.load arg10 (Rect.unit (s := S512x512) ![256, 0] S256x512.size inb_S512x512_S256x512_256_0).toLoadRect (View.loadsAt_vmem h_S256x512))
    Prog.lift (.store arg10 (Rect.unit (s := S512x512) ![256, 0] S256x512.size inb_S512x512_S256x512_256_0) (k0_pay9 v117 v120 v123 v127 v129 v133 v137 v145) Finset.univ (View.stores_vmem h_S256x512 (harg10.storeExact_slice rfl _ packedi8_S512x512_S256x512_256_0) (fun _ => rfl)) (.inl rfl))
    jp ⟨⟩
  else do
    jp ⟨⟩

/-- The exact path, taken when the stored flag is 0, then `jp`. -/
def progD (jp : PUnit.{1} → PP F) : PP F := do
  let arg1 : BitVec 32 := BitVec.ofNat 32 (i 1).val
  let v12 : Elt F .i32 ← smemLoad arg16 (Rect.unit (s := S1) ![0] S1.size inb_S1_S1_0) numel1_S1 rfl
  let v13 : BitVec 1 := Scalar.cmpi .eq v12 0#32
  let v14 : BitVec 32 := Scalar.extui v13
  let v15 : BitVec 1 := Scalar.cmpi .ne v14 0#32
  if v15 = 1#1 then do
    let ⟨v48, v50, v52⟩ : Σ' (v48 : IVec S256x512 32) (v50 : IVec S1x512 32), IVec S1x512 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1
    let ⟨v53, v55, v65, v90, v96⟩ : Σ' (v53 : Elt F .i32) (v55 : IVec S256x512 1) (v65 : IVec S256x512 32) (v90 : IVec S256x512 32), IVec S256x512 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v48 v50
    let ⟨v141, v142⟩ : Σ' (v141 : IVec S256x512 32), IVec S256x512 1 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v52 v55 v65 v90 v96
    let ⟨v175, v178, v180⟩ : Σ' (v175 : IVec S256x512 32) (v178 : IVec S256x512 32), IVec S256x512 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v53 v141 v142
    let ⟨v189, v190, v192, v202, v208, v213, v215, v220, v222⟩ : Σ' (v189 : IVec S1x512 32) (v190 : Elt F .i32) (v192 : IVec S256x512 1) (v202 : IVec S256x512 32) (v208 : IVec S256x512 32) (v213 : IVec S256x512 32) (v215 : IVec S256x512 32) (v220 : IVec S256x512 32), IVec S256x512 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v175 v178 v180
    let ⟨v249, v254, v256, v264, v266⟩ : Σ' (v249 : IVec S256x512 32) (v254 : IVec S1x512 1) (v256 : IVec S1x512 32) (v264 : IVec S256x512 32), IVec S1x512 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v189 v192 v202 v208 v213 v215 v220 v222
    let v289 : Vec F S256x512 .i8 ← Prog.lift (.load arg10 (Rect.unit (s := S512x512) ![256, 0] S256x512.size inb_S512x512_S256x512_256_0).toLoadRect (View.loadsAt_vmem h_S256x512))
    Prog.lift (.store arg10 (Rect.unit (s := S512x512) ![256, 0] S256x512.size inb_S512x512_S256x512_256_0) (k0_pay10 v190 v249 v254 v256 v264 v266) Finset.univ (View.stores_vmem h_S256x512 (harg10.storeExact_slice rfl _ packedi8_S512x512_S256x512_256_0) (fun _ => rfl)) (.inl rfl))
    jp ⟨⟩
  else do
    jp ⟨⟩

set_option maxRecDepth 65536 in
/-- The kernel body is its four stages in order. -/
theorem skel_eq : cc0_u8_gemm_requant_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
    = progA i arg4 arg11 harg11 arg12 (fun _ => progB i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progC i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progD i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => pure ⟨⟩)))) := rfl

/-- Stage A at `n = 0`. -/
theorem wpA (c : Dev nD) (h : k0_cond1 i = 1#1) (X4 : Vec F S512x2560 .i8) (X11 : Vec F S9216x2560 .bf16) (X12 : Vec F S9216x128 .i32)
    (jp : PUnit.{1} → PP F) (K : PUnit.{1} → sProp 𝕄) :
    iprop(owns (c : Thread nD τ) arg4 fullShare X4
      ∗ owns (c : Thread nD τ) arg11 fullShare X11
      ∗ owns (c : Thread nD τ) arg12 fullShare X12
      ∗ (iprop(owns (c : Thread nD τ) arg4 fullShare X4
      ∗ owns (c : Thread nD τ) arg11 fullShare (VecWindow.put X11 (k0_off1 i) S512x2560.size (k0_pay2 X4))
      ∗ owns (c : Thread nD τ) arg12 fullShare (VecWindow.put X12 (k0_off2 i) S512x128.size (k0_pay3 X4)))
        -∗ wp frame (wpE (defs₀ (F := F)) Variants.none c none) Set.univ (jp ⟨⟩) K))
    ⊢ wp frame (wpE (defs₀ (F := F)) Variants.none c none) Set.univ (progA i arg4 arg11 harg11 arg12 jp) K := by
  unfold progA owns
  iintro ⟨⟨%f4, %h4, H4⟩, ⟨%f11, %h11, H11⟩, ⟨%f12, %h12, H12⟩, Hk⟩
  sl_exec
  iapply Hk
  isplitl [H4]
  · iexists _; isplitr; swap; · iexact H4
    ipureintro; exact h4
  isplitl [H11]
  · iexists _; isplitr; swap; · iexact H11
    ipureintro; rw [View.read_writes_cons_put _ _ _ _ _ rfl, View.writes_nil, h11, View.readAt_full, h4]
  iexists _; isplitr; swap; · iexact H12
  ipureintro; rw [View.read_writes_cons_put _ _ _ _ _ rfl, View.writes_nil, h12, View.readAt_full, h4]

set_option maxHeartbeats 1000000 in
/-- Stage B at `m = 0`. -/
theorem wpB (c : Dev nD) (h : (Scalar.cmpi .ne (Scalar.extui (Scalar.cmpi .eq (BitVec.ofNat 32 (i 1).val : BitVec 32) 0#32)) 0#32 : BitVec 1) = 1#1)
    (X2 X3 : Vec F S1 .i32) (X5 : Vec F S512x2560 .i8) (X6 X7 X8 X9 : Vec F S1x512 .i32) (X13 : Vec F S512x2560 .bf16) (X14 : Vec F S8x512 .i32) (X15 : Vec F S8x512 .f32) (X16 : Vec F S1 .i32)
    (jp : PUnit.{1} → PP F) (K : PUnit.{1} → sProp 𝕄) :
    iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare (k0_pay11 X5)
      ∗ owns (c : Thread nD τ) arg14 fullShare (ipOf X2 X3 X5 X6 X7 X8 X9 X14)
      ∗ owns (c : Thread nD τ) arg15 fullShare (fpOf X3 X8 X9 X15)
      ∗ owns (c : Thread nD τ) arg16 fullShare (fun _ => Scalar.extui (flagOf X2 X3 X6 X7 X8 X9)))
        -∗ wp frame (wpE (defs₀ (F := F)) Variants.none c none) Set.univ (jp ⟨⟩) K))
    ⊢ wp frame (wpE (defs₀ (F := F)) Variants.none c none) Set.univ (progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progB owns
  iintro ⟨⟨%f2, %h2, H2⟩, ⟨%f3, %h3, H3⟩, ⟨%f5, %h5, H5⟩, ⟨%f6, %h6, H6⟩, ⟨%f7, %h7, H7⟩, ⟨%f8, %h8, H8⟩, ⟨%f9, %h9, H9⟩, ⟨%f13, %h13, H13⟩, ⟨%f14, %h14, H14⟩, ⟨%f15, %h15, H15⟩, ⟨%f16, %h16, H16⟩, Hk⟩
  simp only [k0_part1_eq_skeleton, k0_part2_eq_skeleton, k0_part3_eq_skeleton]
  unfold k0_part1_skel k0_part2_skel k0_part3_skel
  sl_exec
  iapply Hk
  isplitl [H2]
  · iexists _; isplitr; swap; · iexact H2
    ipureintro; exact h2
  isplitl [H3]
  · iexists _; isplitr; swap; · iexact H3
    ipureintro; exact h3
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  have r5 : View.readAt (Elt F) arg5.view (Rect.unit ![0, 0] S512x2560.size inb_S512x2560_S512x2560_0_0).toLoadRect f5 = X5 := by rw [View.readAt_full, h5]
  have r6 : View.readAt (Elt F) arg6.view (Rect.unit ![0, 0] S1x512.size inb_S1x512_S1x512_0_0).toLoadRect f6 = X6 := by rw [View.readAt_full, h6]
  have r7 : View.readAt (Elt F) arg7.view (Rect.unit ![0, 0] S1x512.size inb_S1x512_S1x512_0_0).toLoadRect f7 = X7 := by rw [View.readAt_full, h7]
  have r8 : View.readAt (Elt F) arg8.view (Rect.unit ![0, 0] S1x512.size inb_S1x512_S1x512_0_0).toLoadRect f8 = X8 := by rw [View.readAt_full, h8]
  have r9 : View.readAt (Elt F) arg9.view (Rect.unit ![0, 0] S1x512.size inb_S1x512_S1x512_0_0).toLoadRect f9 = X9 := by rw [View.readAt_full, h9]
  have e2 : wpB.sl.r arg2 c f2 = X2 z1 := by unfold wpB.sl.r; rw [View.readAt_full, h2]
  have e3 : wpB.sl.r_1 arg3 c f3 = X3 z1 := by unfold wpB.sl.r_1; rw [View.readAt_full, h3]
  isplitl [H13]
  · iexists _; isplitr; swap; · iexact H13
    ipureintro; rw [View.read_writes_full, View.readAt_full, h5]
  isplitl [H14]
  · iexists _; isplitr; swap; · iexact H14
    ipureintro
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl,
      View.read_writes_cons_put _ _ _ _ _ rfl, View.writes_nil, h14]
    dsimp only
    rw [r5, r6, r7, r8, r9, e2, e3]
    rfl
  isplitl [H15]
  · iexists _; isplitr; swap; · iexact H15
    ipureintro
    rw [View.read_writes_cons_put _ _ _ _ _ rfl, View.read_writes_cons_put _ _ _ _ _ rfl, View.read_writes_cons_put _ _ _ _ _ rfl, View.writes_nil, h15]
    dsimp only
    rw [r8, r9, e3]
    rfl
  iexists _; isplitr; swap; · iexact H16
  ipureintro
  rw [View.read_writes_full]
  unfold wpB.sl.v83 wpB.sl.v82 wpB.sl.v81 wpB.sl.v80 wpB.sl.v79 wpB.sl.v78 wpB.sl.v77 wpB.sl.v76 wpB.sl.v75 wpB.sl.v74
  dsimp only
  rw [e2, e3, r6, r7, r8, r9]
  rfl

/-- Stage C when the stored flag is 1. -/
theorem wpC (c : Dev nD) (X10 : Vec F S512x512 .i8) (X11 : Vec F S9216x2560 .bf16) (X12 : Vec F S9216x128 .i32)
    (X13 : Vec F S512x2560 .bf16) (X14 : Vec F S8x512 .i32) (X15 : Vec F S8x512 .f32)
    (jp : PUnit.{1} → PP F) (K : PUnit.{1} → sProp 𝕄) :
    iprop(owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => 1#32)
      ∗ (iprop(owns (c : Thread nD τ) arg10 fullShare (halves X10 (fastLo i X11 X12 X13 X14 X15) (fastHi i X11 X12 X13 X14 X15))
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => 1#32))
        -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progC owns
  iintro ⟨⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, Hk⟩
  simp only [k0_part4_eq_skeleton, k0_part5_eq_skeleton, k0_part6_eq_skeleton]
  unfold k0_part4_skel k0_part5_skel k0_part6_skel
  sl_exec
  iapply Hk
  isplitl [H10]
  · iexists _; isplitr; swap; · iexact H10
    ipureintro
    have e16 : wpC.sl.r arg16 c f16 = 1#32 := by unfold wpC.sl.r; rw [View.readAt_full, h16]
    rw [dif_pos (by rw [e16]; rfl), View.read_writes_cons_put _ _ _ _ _ rfl, View.read_writes_cons_put _ _ _ _ _ rfl, View.writes_nil]
    subst h10 h11 h12 h13 h14 h15
    dsimp only
    unfold halves fastLo fastHi win
    rfl
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  iexists _; isplitr; swap; · iexact H16
  ipureintro; exact h16

set_option maxHeartbeats 1000000 in
/-- Stage D when the stored flag is 0. -/
theorem wpD (c : Dev nD) (X3 : Vec F S1 .i32) (X8 X9 : Vec F S1x512 .i32) (X10 : Vec F S512x512 .i8) (X11 : Vec F S9216x2560 .bf16) (X12 : Vec F S9216x128 .i32)
    (X13 : Vec F S512x2560 .bf16) (X14 : Vec F S8x512 .i32)
    (jp : PUnit.{1} → PP F) (K : PUnit.{1} → sProp 𝕄) :
    iprop(owns (c : Thread nD τ) arg3 fullShare X3
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg16 fullShare (fun _ => 0#32)
      ∗ (iprop(owns (c : Thread nD τ) arg3 fullShare X3
      ∗ owns (c : Thread nD τ) arg8 fullShare X8
      ∗ owns (c : Thread nD τ) arg9 fullShare X9
      ∗ owns (c : Thread nD τ) arg10 fullShare (halves X10 (slowLo i X3 X8 X9 X11 X12 X13 X14) (slowHi i X3 X8 X9 X11 X12 X13 X14))
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg16 fullShare (fun _ => 0#32))
        -∗ wp frame (wpE (defs₀ (F := F)) Variants.none c none) Set.univ (jp ⟨⟩) K))
    ⊢ wp frame (wpE (defs₀ (F := F)) Variants.none c none) Set.univ (progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progD owns
  iintro ⟨⟨%f3, %h3, H3⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f16, %h16, H16⟩, Hk⟩
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  sl_exec
  iapply Hk
  isplitl [H3]
  · iexists _; isplitr; swap; · iexact H3
    ipureintro; exact h3
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro
    have e16 : wpD.sl.r arg16 c f16 = 0#32 := by unfold wpD.sl.r; rw [View.readAt_full, h16]
    rw [dif_pos (by rw [e16]; rfl), View.read_writes_cons_put _ _ _ _ _ rfl, View.read_writes_cons_put _ _ _ _ _ rfl, View.writes_nil]
    have e3 : wpD.sl.r_1 arg3 c f3 = X3 z1 := by unfold wpD.sl.r_1; rw [View.readAt_full, h3]
    have r8 : View.readAt (Elt F) arg8.view (Rect.unit ![0, 0] S1x512.size inb_S1x512_S1x512_0_0).toLoadRect f8 = X8 := by rw [View.readAt_full, h8]
    have r9 : View.readAt (Elt F) arg9.view (Rect.unit ![0, 0] S1x512.size inb_S1x512_S1x512_0_0).toLoadRect f9 = X9 := by rw [View.readAt_full, h9]
    dsimp only
    rw [r8, r9, e3]
    clear r8 r9 e3
    subst h10 h11 h12 h13 h14
    unfold halves slowLo slowHi slowLoR slowHiR slowAcc win
    rfl
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  iexists _; isplitr; swap; · iexact H16
  ipureintro; exact h16

/-- Stage A at `n ≠ 0` does nothing. -/
theorem skipA (h : ¬ k0_cond1 i = 1#1) (jp : PUnit.{1} → PP F) : progA i arg4 arg11 harg11 arg12 jp = jp ⟨⟩ := by
  unfold progA; rw [dif_neg h]

/-- Stage B at `m ≠ 0` does nothing. -/
theorem skipB (h : ¬ (Scalar.cmpi .ne (Scalar.extui (Scalar.cmpi .eq (BitVec.ofNat 32 (i 1).val : BitVec 32) 0#32)) 0#32 : BitVec 1) = 1#1)
    (jp : PUnit.{1} → PP F) : progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp = jp ⟨⟩ := by
  unfold progB; dsimp only; rw [dif_neg h]

/-- Reading the flag. -/
theorem wp_flag (c : Dev nD) (v : BitVec 32) (k : Elt F .i32 → PP F) (K : PUnit.{1} → sProp 𝕄) :
    iprop(owns (c : Thread nD τ) arg16 fullShare (fun _ => v) ∗ (iprop(owns (c : Thread nD τ) arg16 fullShare (fun _ => v)) -∗ wp frame (wpE (defs₀ (F := F)) Variants.none c none) Set.univ (k v) K))
    ⊢ wp frame (wpE (defs₀ (F := F)) Variants.none c none) Set.univ (smemLoad arg16 (Rect.unit (s := S1) ![0] S1.size inb_S1_S1_0) numel1_S1 rfl >>= k) K := by
  unfold owns
  iintro ⟨⟨%f16, %h16, H16⟩, Hk⟩
  sl_exec
  have e : wp_flag.sl.r arg16 c f16 = v := by unfold wp_flag.sl.r; rw [View.readAt_full, h16]
  rw [e]
  iapply Hk
  iexists _; isplitr; swap; · iexact H16
  ipureintro; exact h16

/-- Stage C (the fast path) does nothing when the stored flag is 0. -/
theorem wpCF (c : Dev nD) (X10 : Vec F S512x512 .i8) (jp : PUnit.{1} → PP F) (K : PUnit.{1} → sProp 𝕄) :
    iprop(owns (c : Thread nD τ) arg10 fullShare X10 ∗ owns (c : Thread nD τ) arg16 fullShare (fun _ => 0#32)
      ∗ (iprop(owns (c : Thread nD τ) arg10 fullShare X10 ∗ owns (c : Thread nD τ) arg16 fullShare (fun _ => 0#32))
        -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progC
  dsimp only
  iintro ⟨H10, H16, Hk⟩
  iapply wp_flag
  isplitl [H16]; · iexact H16
  iintro H16
  rw [if_neg (by decide)]
  iapply Hk
  isplitl [H10]; · iexact H10
  iexact H16

/-- Stage D (the exact path) does nothing when the stored flag is 1. -/
theorem wpDF (c : Dev nD) (X10 : Vec F S512x512 .i8) (jp : PUnit.{1} → PP F) (K : PUnit.{1} → sProp 𝕄) :
    iprop(owns (c : Thread nD τ) arg10 fullShare X10 ∗ owns (c : Thread nD τ) arg16 fullShare (fun _ => 1#32)
      ∗ (iprop(owns (c : Thread nD τ) arg10 fullShare X10 ∗ owns (c : Thread nD τ) arg16 fullShare (fun _ => 1#32))
        -∗ wp frame (wpE (defs₀ (F := F)) Variants.none c none) Set.univ (jp ⟨⟩) K))
    ⊢ wp frame (wpE (defs₀ (F := F)) Variants.none c none) Set.univ (progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold progD
  dsimp only
  iintro ⟨H10, H16, Hk⟩
  iapply wp_flag
  isplitl [H16]; · iexact H16
  iintro H16
  rw [if_neg (by decide)]
  iapply Hk
  isplitl [H10]; · iexact H10
  iexact H16

/-- Stage A at any point. -/
theorem stA (c : Dev nD) (X4 : Vec F S512x2560 .i8) (X11 : Vec F S9216x2560 .bf16) (X12 : Vec F S9216x128 .i32) (jp : PUnit.{1} → PP F) (K : PUnit.{1} → sProp 𝕄) :
    iprop(owns (c : Thread nD τ) arg4 fullShare X4
      ∗ owns (c : Thread nD τ) arg11 fullShare X11
      ∗ owns (c : Thread nD τ) arg12 fullShare X12
      ∗ (iprop(owns (c : Thread nD τ) arg4 fullShare X4
      ∗ owns (c : Thread nD τ) arg11 fullShare (aX i X4 X11)
      ∗ owns (c : Thread nD τ) arg12 fullShare (aR i X4 X12)) -∗ wp frame (wpE (defs₀ (F := F)) Variants.none c none) Set.univ (jp ⟨⟩) K))
    ⊢ wp frame (wpE (defs₀ (F := F)) Variants.none c none) Set.univ (progA i arg4 arg11 harg11 arg12 jp) K := by
  unfold aX aR
  by_cases h : k0_cond1 i = 1#1
  · rw [if_pos h, if_pos h]; exact wpA i arg4 arg11 harg11 arg12 c h X4 X11 X12 jp K
  · rw [if_neg h, if_neg h, skipA i arg4 arg11 harg11 arg12 h]
    · iintro ⟨H4, H11, H12, Hk⟩
      iapply Hk
      isplitl [H4]; · iexact H4
      isplitl [H11]; · iexact H11
      iexact H12

/-- Stage B at any point: the flag left is `b`. -/
theorem stB (c : Dev nD) (b : BitVec 1) (X2 X3 : Vec F S1 .i32) (X5 : Vec F S512x2560 .i8) (X6 X7 X8 X9 : Vec F S1x512 .i32) (X13 : Vec F S512x2560 .bf16) (X14 : Vec F S8x512 .i32) (X15 : Vec F S8x512 .f32) (X16 : Vec F S1 .i32)
    (hb : isM0 i → flagOf X2 X3 X6 X7 X8 X9 = b) (hb' : ¬ isM0 i → X16 = fun _ => Scalar.extui b) (jp : PUnit.{1} → PP F) (K : PUnit.{1} → sProp 𝕄) :
    iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg13 fullShare (bW i X5 X13)
      ∗ owns (c : Thread nD τ) arg14 fullShare (bI i X2 X3 X5 X6 X7 X8 X9 X14)
      ∗ owns (c : Thread nD τ) arg15 fullShare (bF i X3 X8 X9 X15)
      ∗ owns (c : Thread nD τ) arg16 fullShare (fun _ => Scalar.extui b)) -∗ wp frame (wpE (defs₀ (F := F)) Variants.none c none) Set.univ (jp ⟨⟩) K))
    ⊢ wp frame (wpE (defs₀ (F := F)) Variants.none c none) Set.univ (progB i arg2 harg2 arg3 harg3 arg4 harg4 arg5 harg5 arg6 harg6 arg7 harg7 arg8 harg8 arg9 harg9 arg10 harg10 arg11 harg11 arg12 harg12 arg13 harg13 arg14 harg14 arg15 harg15 arg16 harg16 jp) K := by
  unfold bW bI bF
  by_cases h : isM0 i
  · rw [if_pos h, if_pos h, if_pos h, ← hb h]; exact wpB i arg2 harg2 arg3 harg3 arg4 harg4 arg5 harg5 arg6 harg6 arg7 harg7 arg8 harg8 arg9 harg9 arg10 harg10 arg11 harg11 arg12 harg12 arg13 harg13 arg14 harg14 arg15 harg15 arg16 harg16 c h X2 X3 X5 X6 X7 X8 X9 X13 X14 X15 X16 jp K
  · rw [if_neg h, if_neg h, if_neg h, skipB i arg2 harg2 arg3 harg3 arg4 harg4 arg5 harg5 arg6 harg6 arg7 harg7 arg8 harg8 arg9 harg9 arg10 harg10 arg11 harg11 arg12 harg12 arg13 harg13 arg14 harg14 arg15 harg15 arg16 harg16 h, hb' h]
    · iintro ⟨H2, H3, H5, H6, H7, H8, H9, H13, H14, H15, H16, Hk⟩
      iapply Hk
      isplitl [H2]; · iexact H2
      isplitl [H3]; · iexact H3
      isplitl [H5]; · iexact H5
      isplitl [H6]; · iexact H6
      isplitl [H7]; · iexact H7
      isplitl [H8]; · iexact H8
      isplitl [H9]; · iexact H9
      isplitl [H13]; · iexact H13
      isplitl [H14]; · iexact H14
      isplitl [H15]; · iexact H15
      iexact H16

/-- Stages C and D: the flag `b` decides which of them stores the block. -/
theorem stCD (c : Dev nD) (b : BitVec 1) (X3 : Vec F S1 .i32) (X8 X9 : Vec F S1x512 .i32) (X10 : Vec F S512x512 .i8) (X11 : Vec F S9216x2560 .bf16) (X12 : Vec F S9216x128 .i32) (X13 : Vec F S512x2560 .bf16) (X14 : Vec F S8x512 .i32) (X15 : Vec F S8x512 .f32) (jp : PUnit.{1} → PP F) (K : PUnit.{1} → sProp 𝕄) :
    iprop(owns (c : Thread nD τ) arg3 fullShare X3
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => Scalar.extui b)
      ∗ (iprop(owns (c : Thread nD τ) arg3 fullShare X3
      ∗ owns (c : Thread nD τ) arg8 fullShare X8
      ∗ owns (c : Thread nD τ) arg9 fullShare X9
      ∗ owns (c : Thread nD τ) arg10 fullShare (outPut i X3 X8 X9 X10 X11 X12 X13 X14 X15 b)
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare (fun _ => Scalar.extui b)) -∗ wp frame (wpE (defs₀ (F := F)) Variants.none c none) Set.univ (jp ⟨⟩) K))
    ⊢ wp frame (wpE (defs₀ (F := F)) Variants.none c none) Set.univ (progC i arg2 harg2 arg3 harg3 arg4 harg4 arg5 harg5 arg6 harg6 arg7 harg7 arg8 harg8 arg9 harg9 arg10 harg10 arg11 harg11 arg12 harg12 arg13 harg13 arg14 harg14 arg15 harg15 arg16 harg16 (fun _ => progD i arg2 harg2 arg3 harg3 arg4 harg4 arg5 harg5 arg6 harg6 arg7 harg7 arg8 harg8 arg9 harg9 arg10 harg10 arg11 harg11 arg12 harg12 arg13 harg13 arg14 harg14 arg15 harg15 arg16 harg16 jp)) K := by
  unfold outPut
  iintro ⟨H3, H8, H9, H10, H11, H12, H13, H14, H15, H16, Hk⟩
  rcases (by decide : ∀ b : BitVec 1, b = 1#1 ∨ b = 0#1) b with rfl | rfl
  · rw [if_pos rfl, show (Scalar.extui 1#1 : BitVec 32) = 1#32 from rfl]
    iapply (wpC i arg2 harg2 arg3 harg3 arg4 harg4 arg5 harg5 arg6 harg6 arg7 harg7 arg8 harg8 arg9 harg9 arg10 harg10 arg11 harg11 arg12 harg12 arg13 harg13 arg14 harg14 arg15 harg15 arg16 harg16 c X10 X11 X12 X13 X14 X15 _ K)
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H10, H11, H12, H13, H14, H15, H16⟩
    iapply (wpDF i arg2 harg2 arg3 harg3 arg4 harg4 arg5 harg5 arg6 harg6 arg7 harg7 arg8 harg8 arg9 harg9 arg10 harg10 arg11 harg11 arg12 harg12 arg13 harg13 arg14 harg14 arg15 harg15 arg16 harg16 c _ jp K)
    isplitl [H10]; · iexact H10
    isplitl [H16]; · iexact H16
    iintro ⟨H10, H16⟩
    iapply Hk
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [if_neg (by decide), show (Scalar.extui 0#1 : BitVec 32) = 0#32 from rfl]
    iapply (wpCF i arg2 harg2 arg3 harg3 arg4 harg4 arg5 harg5 arg6 harg6 arg7 harg7 arg8 harg8 arg9 harg9 arg10 harg10 arg11 harg11 arg12 harg12 arg13 harg13 arg14 harg14 arg15 harg15 arg16 harg16 c X10 _ K)
    isplitl [H10]; · iexact H10
    isplitl [H16]; · iexact H16
    iintro ⟨H10, H16⟩
    iapply (wpD i arg2 harg2 arg3 harg3 arg4 harg4 arg5 harg5 arg6 harg6 arg7 harg7 arg8 harg8 arg9 harg9 arg10 harg10 arg11 harg11 arg12 harg12 arg13 harg13 arg14 harg14 arg15 harg15 arg16 harg16 c X3 X8 X9 X10 X11 X12 X13 X14 jp K)
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexact H16
    iintro ⟨H3, H8, H9, H10, H11, H12, H13, H14, H16⟩
    iapply Hk
    isplitl [H3]; · iexact H3
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body at one grid point: from any contents, with the flag the set-up leaves being the bit `b`. -/
theorem wp_body (c : Dev nD) (b : BitVec 1) (X2 X3 : Vec F S1 .i32) (X4 X5 : Vec F S512x2560 .i8) (X6 X7 X8 X9 : Vec F S1x512 .i32) (X10 : Vec F S512x512 .i8) (X11 : Vec F S9216x2560 .bf16) (X12 : Vec F S9216x128 .i32) (X13 : Vec F S512x2560 .bf16) (X14 : Vec F S8x512 .i32) (X15 : Vec F S8x512 .f32) (X16 : Vec F S1 .i32)
    (hb : isM0 i → flagOf X2 X3 X6 X7 X8 X9 = b) (hb' : ¬ isM0 i → X16 = fun _ => Scalar.extui b) (K : PUnit.{1} → sProp 𝕄) :
    iprop(owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare X16
      ∗ (iprop(owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare (outPut i X3 X8 X9 X10 (aX i X4 X11) (aR i X4 X12) (bW i X5 X13) (bI i X2 X3 X5 X6 X7 X8 X9 X14) (bF i X3 X8 X9 X15) b)
      ∗ owns (c : Thread nD τ) arg11 fullShare (aX i X4 X11)
      ∗ owns (c : Thread nD τ) arg12 fullShare (aR i X4 X12)
      ∗ owns (c : Thread nD τ) arg13 fullShare (bW i X5 X13)
      ∗ owns (c : Thread nD τ) arg14 fullShare (bI i X2 X3 X5 X6 X7 X8 X9 X14)
      ∗ owns (c : Thread nD τ) arg15 fullShare (bF i X3 X8 X9 X15)
      ∗ owns (c : Thread nD τ) arg16 fullShare (fun _ => Scalar.extui b)) -∗ K ⟨⟩))
    ⊢ wp frame (wpE (defs₀ (F := F)) Variants.none c none) Set.univ (cc0_u8_gemm_requant i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_u8_gemm_requant_eq_skeleton, skel_eq]
  iintro ⟨H2, H3, H4, H5, H6, H7, H8, H9, H10, H11, H12, H13, H14, H15, H16, Hk⟩
  iapply (stA i arg4 arg11 harg11 arg12 c X4 X11 X12 _ K)
  isplitl [H4]; · iexact H4
  isplitl [H11]; · iexact H11
  isplitl [H12]; · iexact H12
  iintro ⟨H4, H11, H12⟩
  iapply (stB i arg2 harg2 arg3 harg3 arg4 harg4 arg5 harg5 arg6 harg6 arg7 harg7 arg8 harg8 arg9 harg9 arg10 harg10 arg11 harg11 arg12 harg12 arg13 harg13 arg14 harg14 arg15 harg15 arg16 harg16 c b X2 X3 X5 X6 X7 X8 X9 X13 X14 X15 X16 hb hb' _ K)
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  iintro ⟨H2, H3, H5, H6, H7, H8, H9, H13, H14, H15, H16⟩
  iapply (stCD i arg2 harg2 arg3 harg3 arg4 harg4 arg5 harg5 arg6 harg6 arg7 harg7 arg8 harg8 arg9 harg9 arg10 harg10 arg11 harg11 arg12 harg12 arg13 harg13 arg14 harg14 arg15 harg15 arg16 harg16 c b X3 X8 X9 X10 _ _ _ _ _ (fun _ : PUnit.{1} => pure ⟨⟩) K)
  isplitl [H3]; · iexact H3
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H3, H8, H9, H10, H11, H12, H13, H14, H15, H16⟩
  rw [wp_pure]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Body

end Cert.Proof.KI

end
-- ==== Proof.KernelIdealRun.lean ====
module

public import proofs.«01_k».proof.Proof.KernelIdealBody
public import Idealize.ShloMosaic.Lib.Pointwise
public import Idealize.ShloMosaic.Lib.Pipeline.ValueKit
public import Idealize.ShloMosaic.Lib.Pipeline.Quiescent

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The grid's geometry: point `t` is column block `t / 18` and row block `t % 18` -/

theorem lt_N (t : Fin cfg0.N) : t.val < 360 := lt_of_lt_of_eq t.isLt N_0
theorem idx0 : ∀ t : Fin cfg0.N, (cfg0.win 0).index t = ![0] := by decide +kernel
theorem idx1 : ∀ t : Fin cfg0.N, (cfg0.win 1).index t = ![0] := by decide +kernel
theorem idx2 : ∀ t : Fin cfg0.N, t.val < 18 → (cfg0.win 2).index t = ![t.val, 0] := by decide +kernel
theorem idx3 : ∀ t : Fin cfg0.N, (cfg0.win 3).index t = ![t.val / 18, 0] := by decide +kernel
theorem idx4 : ∀ t : Fin cfg0.N, (cfg0.win 4).index t = ![0, t.val / 18] := by decide +kernel
theorem idx5 : ∀ t : Fin cfg0.N, (cfg0.win 5).index t = ![0, t.val / 18] := by decide +kernel
theorem idx6 : ∀ t : Fin cfg0.N, (cfg0.win 6).index t = ![0, t.val / 18] := by decide +kernel
theorem idx7 : ∀ t : Fin cfg0.N, (cfg0.win 7).index t = ![0, t.val / 18] := by decide +kernel
theorem idx8 : ∀ t : Fin cfg0.N, (cfg0.win 8).index t = ![t.val % 18, t.val / 18] := by decide +kernel
theorem off1 : ∀ t : Fin cfg0.N, k0_off1 (grid0.coords t) = ![512 * (t.val % 18), 0] := by decide +kernel
theorem off2 : ∀ t : Fin cfg0.N, k0_off2 (grid0.coords t) = ![512 * (t.val % 18), 0] := by decide +kernel
theorem cond1 : ∀ t : Fin cfg0.N, k0_cond1 (grid0.coords t) = 1#1 ↔ t.val < 18 := by decide +kernel
theorem isM0_iff : ∀ t : Fin cfg0.N, isM0 (grid0.coords t) ↔ t.val % 18 = 0 := by decide +kernel

theorem row_lt (t : Fin cfg0.N) (r : Fin 512) : 512 * (t.val / 18) + r.val < 10240 := by
  have := lt_N t; omega

/-! ## The input blocks, read at an index -/

theorem iblk0_apply (c : Dev nD) (t : Fin cfg0.N) (y : S1.Idx) :
    (iblk m c 0 t : Vec F S1 .i32) y = V m c main_v0 (ix1 0) := by
  unfold iblk
  blk_ext [idx0 t]
theorem iblk1_apply (c : Dev nD) (t : Fin cfg0.N) (y : S1.Idx) :
    (iblk m c 1 t : Vec F S1 .i32) y = V m c main_v1 (ix1 0) := by
  unfold iblk
  blk_ext [idx1 t]
theorem iblk2_apply (c : Dev nD) (t : Fin cfg0.N) (h : t.val < 18) (y : S512x2560.Idx) :
    (iblk m c 2 t : Vec F S512x2560 .i8) y = V m c main_v2 (ix2 ⟨512 * t.val + (y 0).val, by have := (y 0).isLt; simp at this; omega⟩ (y 1)) := by
  unfold iblk
  blk_ext [idx2 t h]
theorem iblk3_apply (c : Dev nD) (t : Fin cfg0.N) (y : S512x2560.Idx) :
    (iblk m c 3 t : Vec F S512x2560 .i8) y = V m c main_arg2 (ix2 ⟨512 * (t.val / 18) + (y 0).val, row_lt t (y 0)⟩ (y 1)) := by
  unfold iblk
  blk_ext [idx3 t]
theorem iblk4_apply (c : Dev nD) (t : Fin cfg0.N) (y : S1x512.Idx) :
    (iblk m c 4 t : Vec F S1x512 .i32) y = V m c main_v3 (ix2 0 ⟨512 * (t.val / 18) + (y 1).val, row_lt t (y 1)⟩) := by
  unfold iblk
  blk_ext [idx4 t]
theorem iblk5_apply (c : Dev nD) (t : Fin cfg0.N) (y : S1x512.Idx) :
    (iblk m c 5 t : Vec F S1x512 .i32) y = V m c main_v4 (ix2 0 ⟨512 * (t.val / 18) + (y 1).val, row_lt t (y 1)⟩) := by
  unfold iblk
  blk_ext [idx5 t]
theorem iblk6_apply (c : Dev nD) (t : Fin cfg0.N) (y : S1x512.Idx) :
    (iblk m c 6 t : Vec F S1x512 .i32) y = V m c main_v5 (ix2 0 ⟨512 * (t.val / 18) + (y 1).val, row_lt t (y 1)⟩) := by
  unfold iblk
  blk_ext [idx6 t]
theorem iblk7_apply (c : Dev nD) (t : Fin cfg0.N) (y : S1x512.Idx) :
    (iblk m c 7 t : Vec F S1x512 .i32) y = V m c main_v6 (ix2 0 ⟨512 * (t.val / 18) + (y 1).val, row_lt t (y 1)⟩) := by
  unfold iblk
  blk_ext [idx7 t]

/-- The input blocks of grid point `t`, by name and at their shapes. -/
abbrev bZa (c : Dev nD) (t : Fin cfg0.N) : Vec F S1 .i32 := iblk m c 0 t
abbrev bZc (c : Dev nD) (t : Fin cfg0.N) : Vec F S1 .i32 := iblk m c 1 t
abbrev bX (c : Dev nD) (t : Fin cfg0.N) : Vec F S512x2560 .i8 := iblk m c 2 t
abbrev bWt (c : Dev nD) (t : Fin cfg0.N) : Vec F S512x2560 .i8 := iblk m c 3 t
abbrev bZb (c : Dev nD) (t : Fin cfg0.N) : Vec F S1x512 .i32 := iblk m c 4 t
abbrev bBias (c : Dev nD) (t : Fin cfg0.N) : Vec F S1x512 .i32 := iblk m c 5 t
abbrev bM (c : Dev nD) (t : Fin cfg0.N) : Vec F S1x512 .i32 := iblk m c 6 t
abbrev bS (c : Dev nD) (t : Fin cfg0.N) : Vec F S1x512 .i32 := iblk m c 7 t

/-- Between two points of one column block every operand block but `x`'s is the same. -/
theorem steady (c : Dev nD) (t t' : Fin cfg0.N) (h : t'.val / 18 = t.val / 18) :
    bZa m c t' = bZa m c t ∧ bZc m c t' = bZc m c t ∧ bWt m c t' = bWt m c t ∧ bZb m c t' = bZb m c t
      ∧ bBias m c t' = bBias m c t ∧ bM m c t' = bM m c t ∧ bS m c t' = bS m c t := by
  refine ⟨?_, ?_, ?_, ?_, ?_, ?_, ?_⟩ <;> funext y
  · exact (iblk0_apply m c t' y).trans (iblk0_apply m c t y).symm
  · exact (iblk1_apply m c t' y).trans (iblk1_apply m c t y).symm
  · refine (iblk3_apply m c t' y).trans (Eq.trans ?_ (iblk3_apply m c t y).symm); simp only [h]
  · refine (iblk4_apply m c t' y).trans (Eq.trans ?_ (iblk4_apply m c t y).symm); simp only [h]
  · refine (iblk5_apply m c t' y).trans (Eq.trans ?_ (iblk5_apply m c t y).symm); simp only [h]
  · refine (iblk6_apply m c t' y).trans (Eq.trans ?_ (iblk6_apply m c t y).symm); simp only [h]
  · refine (iblk7_apply m c t' y).trans (Eq.trans ?_ (iblk7_apply m c t y).symm); simp only [h]

/-! ## What the scratch buffers hold -/

theorem xpt_lt (r : Fin 9216) : r.val / 512 < cfg0.N := by rw [show cfg0.N = 360 from N_0]; omega

/-- The centred rows of `x`, whole: row `r` as the point `r / 512` stores it. -/
def xbAll (c : Dev nD) : Vec F S9216x2560 .bf16 := fun y =>
  k0_pay2 (bX m c ⟨(y 0).val / 512, xpt_lt (y 0)⟩) (ix2 ⟨(y 0).val % 512, Nat.mod_lt _ (by decide)⟩ (y 1))
/-- The row sums of the centred rows, whole. -/
def rsAll (c : Dev nD) : Vec F S9216x128 .i32 := fun y =>
  k0_pay3 (bX m c ⟨(y 0).val / 512, xpt_lt (y 0)⟩) (ix2 ⟨(y 0).val % 512, Nat.mod_lt _ (by decide)⟩ (y 1))
/-- The integer parameter rows, the float parameter rows and the path flag of point `t`'s column block. -/
def pIp (c : Dev nD) (t : Fin cfg0.N) (old : Vec F S8x512 .i32) : Vec F S8x512 .i32 :=
  ipOf (bZa m c t) (bZc m c t) (bWt m c t) (bZb m c t) (bBias m c t) (bM m c t) (bS m c t) old
def pFp (c : Dev nD) (t : Fin cfg0.N) (old : Vec F S8x512 .f32) : Vec F S8x512 .f32 :=
  fpOf (bZc m c t) (bM m c t) (bS m c t) old
def pFlag (c : Dev nD) (t : Fin cfg0.N) : BitVec 1 :=
  flagOf (bZa m c t) (bZc m c t) (bZb m c t) (bBias m c t) (bM m c t) (bS m c t)

/-- The output block point `t` stores, of the whole centred rows and its column block's parameters. -/
def outAt (c : Dev nD) (t : Fin cfg0.N) : Vec F S512x512 .i8 :=
  outPut (grid0.coords t) (bZc m c t) (bM m c t) (bS m c t) (fun _ => 0#8) (xbAll m c) (rsAll m c) (k0_pay11 (bWt m c t))
    (pIp m c t (fun _ => 0#32)) (pFp m c t (fun _ => FloatOps.ofBits .f32 0#32)) (pFlag m c t)

/-! ## Stores into rows -/

/-- A store of one whole row of an 8-row buffer. -/
theorem put_row {α : Type} (X : S8x512.Idx → α) (r : ℕ) (w : S1x512.Idx → α) (y : S8x512.Idx) :
    VecWindow.put X ![r, 0] S1x512.size w y = if (y 0).val = r then w (ix2 0 (y 1)) else X y := by
  have h1 : (y 1).val < 512 := (y 1).isLt
  unfold VecWindow.put
  by_cases h : (y 0).val = r
  · rw [if_pos h, dif_pos]
    · congr 1; funext a; fin_cases a
      · exact Fin.ext (by show (y 0).val - r = 0; omega)
      · exact Fin.ext (by show (y 1).val - 0 = (y 1).val; omega)
    · intro a; fin_cases a
      · show r ≤ (y 0).val ∧ (y 0).val < r + 1; omega
      · show 0 ≤ (y 1).val ∧ (y 1).val < 0 + 512; omega
  · rw [if_neg h, dif_neg]
    intro hh; have h0 : r ≤ (y 0).val ∧ (y 0).val < r + 1 := hh 0; omega

/-- Rows 0 to 6 of the integer parameters do not depend on what was there before. -/
theorem ipOf_congr (X2 X3 : Vec F S1 .i32) (X5 : Vec F S512x2560 .i8) (X6 X7 X8 X9 : Vec F S1x512 .i32) (old old' : Vec F S8x512 .i32)
    (y : S8x512.Idx) (h : (y 0).val < 7) : ipOf X2 X3 X5 X6 X7 X8 X9 old y = ipOf X2 X3 X5 X6 X7 X8 X9 old' y := by
  unfold ipOf
  repeat rw [put_row]
  split_ifs <;> first | rfl | omega
/-- Rows 0 to 2 of the float parameters do not depend on what was there before. -/
theorem fpOf_congr (X3 : Vec F S1 .i32) (X8 X9 : Vec F S1x512 .i32) (old old' : Vec F S8x512 .f32)
    (y : S8x512.Idx) (h : (y 0).val < 3) : fpOf X3 X8 X9 old y = fpOf X3 X8 X9 old' y := by
  unfold fpOf
  repeat rw [put_row]
  split_ifs <;> first | rfl | omega

/-- The two stored halves cover the block. -/
theorem halves_congr (old old' : Vec F S512x512 .i8) (lo hi : IVec S256x512 8) : halves old lo hi = halves old' lo hi := by
  funext y
  have h0 : (y 0).val < 512 := (y 0).isLt
  have h1 : (y 1).val < 512 := (y 1).isLt
  unfold halves VecWindow.put
  by_cases h : 256 ≤ (y 0).val
  · have hc : ∀ a, (![256, 0] : Fin 2 → ℕ) a ≤ (y a).val ∧ (y a).val < (![256, 0] : Fin 2 → ℕ) a + S256x512.size a := by
      intro a; fin_cases a
      · show 256 ≤ (y 0).val ∧ (y 0).val < 256 + 256; omega
      · show 0 ≤ (y 1).val ∧ (y 1).val < 0 + 512; omega
    rw [dif_pos hc, dif_pos hc]
  · have hc : ¬ ∀ a, (![256, 0] : Fin 2 → ℕ) a ≤ (y a).val ∧ (y a).val < (![256, 0] : Fin 2 → ℕ) a + S256x512.size a := fun hh => by
      have : 256 ≤ (y 0).val ∧ _ := hh 0; omega
    have hd : ∀ a, (![0, 0] : Fin 2 → ℕ) a ≤ (y a).val ∧ (y a).val < (![0, 0] : Fin 2 → ℕ) a + S256x512.size a := by
      intro a; fin_cases a
      · show 0 ≤ (y 0).val ∧ (y 0).val < 0 + 256; omega
      · show 0 ≤ (y 1).val ∧ (y 1).val < 0 + 512; omega
    rw [dif_neg hc, dif_neg hc, dif_pos hd, dif_pos hd]

/-! ## The output block is a function of the rows the invariant speaks of -/

/-- Two buffers that agree on the rows below `K` have the same windows there. -/
theorem win_congr {n C : ℕ} {e : EltTy} (X X' : Vec F (⟨2, ![n, C]⟩ : Shape) e) (K : ℕ)
    (h : ∀ y : (⟨2, ![n, C]⟩ : Shape).Idx, (y 0).val < K → X y = X' y) (off size : Fin 2 → ℕ)
    (inb : ∀ a, off a + size a ≤ (⟨2, ![n, C]⟩ : Shape).size a) (hK : off 0 + size 0 ≤ K) : win X off size inb = win X' off size inb := by
  funext j
  refine h _ ?_
  have h0 : (j 0).val < size 0 := (j 0).isLt
  show off 0 + 1 * (j 0).val < K
  omega

section Bounds
theorem b3 : ∀ t : Fin cfg0.N, k0_off3 (grid0.coords t) 0#32 0 + 256 ≤ 512 * (t.val + 1) := by decide +kernel
theorem b4 : ∀ t : Fin cfg0.N, k0_off4 (grid0.coords t) 0#32 0 + 256 ≤ 512 * (t.val + 1) := by decide +kernel
theorem b5 : ∀ t : Fin cfg0.N, k0_off5 (grid0.coords t) 0#32 0 + 256 ≤ 512 * (t.val + 1) := by decide +kernel
theorem b6 : ∀ t : Fin cfg0.N, k0_off6 (grid0.coords t) 0#32 0 + 256 ≤ 512 * (t.val + 1) := by decide +kernel
theorem b7 : ∀ t : Fin cfg0.N, k0_off7 (grid0.coords t) 0#32 0 + 256 ≤ 512 * (t.val + 1) := by decide +kernel
theorem b8 : ∀ t : Fin cfg0.N, k0_off8 (grid0.coords t) 0#32 0 + 256 ≤ 512 * (t.val + 1) := by decide +kernel
theorem b9 : ∀ t : Fin cfg0.N, k0_off9 (grid0.coords t) 0#32 0 + 256 ≤ 512 * (t.val + 1) := by decide +kernel
theorem b10 : ∀ t : Fin cfg0.N, k0_off10 (grid0.coords t) 0#32 0 + 256 ≤ 512 * (t.val + 1) := by decide +kernel
theorem b3' : ∀ t : Fin cfg0.N, k0_off3 (grid0.coords t) 256#32 0 + 256 ≤ 512 * (t.val + 1) := by decide +kernel
theorem b4' : ∀ t : Fin cfg0.N, k0_off4 (grid0.coords t) 256#32 0 + 256 ≤ 512 * (t.val + 1) := by decide +kernel
theorem b5' : ∀ t : Fin cfg0.N, k0_off5 (grid0.coords t) 256#32 0 + 256 ≤ 512 * (t.val + 1) := by decide +kernel
theorem b6' : ∀ t : Fin cfg0.N, k0_off6 (grid0.coords t) 256#32 0 + 256 ≤ 512 * (t.val + 1) := by decide +kernel
theorem b7' : ∀ t : Fin cfg0.N, k0_off7 (grid0.coords t) 256#32 0 + 256 ≤ 512 * (t.val + 1) := by decide +kernel
theorem b8' : ∀ t : Fin cfg0.N, k0_off8 (grid0.coords t) 256#32 0 + 256 ≤ 512 * (t.val + 1) := by decide +kernel
theorem b9' : ∀ t : Fin cfg0.N, k0_off9 (grid0.coords t) 256#32 0 + 256 ≤ 512 * (t.val + 1) := by decide +kernel
theorem b10' : ∀ t : Fin cfg0.N, k0_off10 (grid0.coords t) 256#32 0 + 256 ≤ 512 * (t.val + 1) := by decide +kernel
end Bounds

/-- The output block depends on the centred rows and row sums below the point's own last row, on integer parameter rows 0 to 6,
    on float parameter rows 0 to 2, and not on what the block held. -/
theorem outPut_congr (t : Fin cfg0.N) (X3 : Vec F S1 .i32) (X8 X9 : Vec F S1x512 .i32) (X10 X10' : Vec F S512x512 .i8)
    (X11 X11' : Vec F S9216x2560 .bf16) (X12 X12' : Vec F S9216x128 .i32) (X13 : Vec F S512x2560 .bf16)
    (X14 X14' : Vec F S8x512 .i32) (X15 X15' : Vec F S8x512 .f32) (b : BitVec 1)
    (hX : ∀ y : S9216x2560.Idx, (y 0).val < 512 * (t.val + 1) → X11 y = X11' y)
    (hR : ∀ y : S9216x128.Idx, (y 0).val < 512 * (t.val + 1) → X12 y = X12' y)
    (hI : ∀ y : S8x512.Idx, (y 0).val < 7 → X14 y = X14' y) (hF : ∀ y : S8x512.Idx, (y 0).val < 3 → X15 y = X15' y) :
    outPut (grid0.coords t) X3 X8 X9 X10 X11 X12 X13 X14 X15 b = outPut (grid0.coords t) X3 X8 X9 X10' X11' X12' X13 X14' X15' b := by
  have wX := fun off size inb h => win_congr X11 X11' (512 * (t.val + 1)) hX off size inb h
  have wR := fun off size inb h => win_congr X12 X12' (512 * (t.val + 1)) hR off size inb h
  have wI := fun off size inb h => win_congr X14 X14' 7 hI off size inb h
  have wF := fun off size inb h => win_congr X15 X15' 3 hF off size inb h
  unfold outPut
  rw [halves_congr X10 X10', halves_congr X10 X10']
  have e1 : fastLo (grid0.coords t) X11 X12 X13 X14 X15 = fastLo (grid0.coords t) X11' X12' X13 X14' X15' := by
    unfold fastLo
    rw [wX _ _ _ (b3 t), wX _ _ _ (b4 t), wX _ _ _ (b5 t), wR _ _ _ (b6 t), wI ![0, 0] _ _ (by decide), wI ![1, 0] _ _ (by decide),
      wI ![2, 0] _ _ (by decide), wI ![3, 0] _ _ (by decide), wI ![4, 0] _ _ (by decide), wI ![5, 0] _ _ (by decide),
      wF ![0, 0] _ _ (by decide), wF ![1, 0] _ _ (by decide), wF ![2, 0] _ _ (by decide)]
  have e2 : fastHi (grid0.coords t) X11 X12 X13 X14 X15 = fastHi (grid0.coords t) X11' X12' X13 X14' X15' := by
    unfold fastHi
    rw [wX _ _ _ (b3' t), wX _ _ _ (b4' t), wX _ _ _ (b5' t), wR _ _ _ (b6' t), wI ![0, 0] _ _ (by decide), wI ![1, 0] _ _ (by decide),
      wI ![2, 0] _ _ (by decide), wI ![3, 0] _ _ (by decide), wI ![4, 0] _ _ (by decide), wI ![5, 0] _ _ (by decide),
      wF ![0, 0] _ _ (by decide), wF ![1, 0] _ _ (by decide), wF ![2, 0] _ _ (by decide)]
  have e3 : slowLo (grid0.coords t) X3 X8 X9 X11 X12 X13 X14 = slowLo (grid0.coords t) X3 X8 X9 X11' X12' X13 X14' := by
    unfold slowLo slowAcc
    rw [wX _ _ _ (b7 t), wX _ _ _ (b8 t), wX _ _ _ (b9 t), wR _ _ _ (b10 t), wI ![0, 0] _ _ (by decide), wI ![6, 0] _ _ (by decide)]
  have e4 : slowHi (grid0.coords t) X3 X8 X9 X11 X12 X13 X14 = slowHi (grid0.coords t) X3 X8 X9 X11' X12' X13 X14' := by
    unfold slowHi
    rw [wX _ _ _ (b7' t), wX _ _ _ (b8' t), wX _ _ _ (b9' t), wR _ _ _ (b10' t), wI ![0, 0] _ _ (by decide), wI ![6, 0] _ _ (by decide)]
  rw [e1, e2, e3, e4]

/-! ## The invariant -/

/-- Before point `k`: the centred rows and the row sums of the row blocks met so far, and the parameters of the column block of the
    point before. -/
def Inv (c : Dev nD) (k : ℕ) (X11 : Vec F S9216x2560 .bf16) (X12 : Vec F S9216x128 .i32) (X13 : Vec F S512x2560 .bf16)
    (X14 : Vec F S8x512 .i32) (X15 : Vec F S8x512 .f32) (X16 : Vec F S1 .i32) : Prop :=
  (∀ y : S9216x2560.Idx, (y 0).val < 512 * k → X11 y = xbAll m c y)
    ∧ (∀ y : S9216x128.Idx, (y 0).val < 512 * k → X12 y = rsAll m c y)
    ∧ ∀ t : Fin cfg0.N, t.val + 1 = k → X13 = k0_pay11 (bWt m c t) ∧ (∃ old, X14 = pIp m c t old) ∧ (∃ old, X15 = pFp m c t old)
        ∧ X16 = fun _ => Scalar.extui (pFlag m c t)

/-- The centred rows after point `t`. -/
theorem aX_inv (c : Dev nD) (t : Fin cfg0.N) (X11 : Vec F S9216x2560 .bf16)
    (h : ∀ y : S9216x2560.Idx, (y 0).val < 512 * t.val → X11 y = xbAll m c y) (y : S9216x2560.Idx) (hy : (y 0).val < 512 * (t.val + 1)) :
    aX (grid0.coords t) (bX m c t) X11 y = xbAll m c y := by
  have h0 : (y 0).val < 9216 := (y 0).isLt
  have h1 : (y 1).val < 2560 := (y 1).isLt
  unfold aX
  by_cases ht : t.val < 18
  · rw [if_pos ((cond1 t).2 ht), off1 t, Nat.mod_eq_of_lt ht]
    unfold VecWindow.put
    by_cases hb : 512 * t.val ≤ (y 0).val
    · rw [dif_pos (show ∀ a, (![512 * t.val, 0] : Fin 2 → ℕ) a ≤ (y a).val ∧ (y a).val < (![512 * t.val, 0] : Fin 2 → ℕ) a + S512x2560.size a by
        intro a; fin_cases a
        · show 512 * t.val ≤ (y 0).val ∧ (y 0).val < 512 * t.val + 512; omega
        · show 0 ≤ (y 1).val ∧ (y 1).val < 0 + 2560; omega)]
      unfold xbAll
      have e : (⟨(y 0).val / 512, xpt_lt (y 0)⟩ : Fin cfg0.N) = t := Fin.ext (show (y 0).val / 512 = t.val by omega)
      rw [e]
      congr 1; funext a; fin_cases a
      · exact Fin.ext (by show (y 0).val - 512 * t.val = (y 0).val % 512; omega)
      · exact Fin.ext (by show (y 1).val - 0 = (y 1).val; omega)
    · rw [dif_neg (fun hh => hb (hh 0).1)]; exact h y (by omega)
  · rw [if_neg (fun hh => ht ((cond1 t).1 hh))]; exact h y (by omega)

/-- The row sums after point `t`. -/
theorem aR_inv (c : Dev nD) (t : Fin cfg0.N) (X12 : Vec F S9216x128 .i32)
    (h : ∀ y : S9216x128.Idx, (y 0).val < 512 * t.val → X12 y = rsAll m c y) (y : S9216x128.Idx) (hy : (y 0).val < 512 * (t.val + 1)) :
    aR (grid0.coords t) (bX m c t) X12 y = rsAll m c y := by
  have h0 : (y 0).val < 9216 := (y 0).isLt
  have h1 : (y 1).val < 128 := (y 1).isLt
  unfold aR
  by_cases ht : t.val < 18
  · rw [if_pos ((cond1 t).2 ht), off2 t, Nat.mod_eq_of_lt ht]
    unfold VecWindow.put
    by_cases hb : 512 * t.val ≤ (y 0).val
    · rw [dif_pos (show ∀ a, (![512 * t.val, 0] : Fin 2 → ℕ) a ≤ (y a).val ∧ (y a).val < (![512 * t.val, 0] : Fin 2 → ℕ) a + S512x128.size a by
        intro a; fin_cases a
        · show 512 * t.val ≤ (y 0).val ∧ (y 0).val < 512 * t.val + 512; omega
        · show 0 ≤ (y 1).val ∧ (y 1).val < 0 + 128; omega)]
      unfold rsAll
      have e : (⟨(y 0).val / 512, xpt_lt (y 0)⟩ : Fin cfg0.N) = t := Fin.ext (show (y 0).val / 512 = t.val by omega)
      rw [e]
      congr 1; funext a; fin_cases a
      · exact Fin.ext (by show (y 0).val - 512 * t.val = (y 0).val % 512; omega)
      · exact Fin.ext (by show (y 1).val - 0 = (y 1).val; omega)
    · rw [dif_neg (fun hh => hb (hh 0).1)]; exact h y (by omega)
  · rw [if_neg (fun hh => ht ((cond1 t).1 hh))]; exact h y (by omega)

/-- The parameters after point `t` are its own column block's: computed there when its row block is the first, and otherwise the
    point before's, whose column block is the same. -/
theorem par_inv (c : Dev nD) (t : Fin cfg0.N) (X11 : Vec F S9216x2560 .bf16) (X12 : Vec F S9216x128 .i32) (X13 : Vec F S512x2560 .bf16)
    (X14 : Vec F S8x512 .i32) (X15 : Vec F S8x512 .f32) (X16 : Vec F S1 .i32) (h : Inv m c t.val X11 X12 X13 X14 X15 X16) :
    bW (grid0.coords t) (bWt m c t) X13 = k0_pay11 (bWt m c t)
      ∧ (∃ old, bI (grid0.coords t) (bZa m c t) (bZc m c t) (bWt m c t) (bZb m c t) (bBias m c t) (bM m c t) (bS m c t) X14 = pIp m c t old)
      ∧ (∃ old, bF (grid0.coords t) (bZc m c t) (bM m c t) (bS m c t) X15 = pFp m c t old)
      ∧ (¬ isM0 (grid0.coords t) → X16 = fun _ => Scalar.extui (pFlag m c t)) := by
  unfold bW bI bF
  by_cases ht : t.val % 18 = 0
  · have hm := (isM0_iff t).2 ht
    rw [if_pos hm, if_pos hm, if_pos hm]
    exact ⟨rfl, ⟨_, rfl⟩, ⟨_, rfl⟩, fun hn => absurd hm hn⟩
  · have hm : ¬ isM0 (grid0.coords t) := fun hh => ht ((isM0_iff t).1 hh)
    rw [if_neg hm, if_neg hm, if_neg hm]
    have hlt := lt_N t
    obtain ⟨e1, ⟨o1, e2⟩, ⟨o2, e3⟩, e4⟩ := h.2.2 ⟨t.val - 1, lt_of_lt_of_eq (show t.val - 1 < 360 by omega) N_0.symm⟩ (show t.val - 1 + 1 = t.val by omega)
    obtain ⟨s0, s1, s3, s4, s5, s6, s7⟩ := steady m c t ⟨t.val - 1, lt_of_lt_of_eq (show t.val - 1 < 360 by omega) N_0.symm⟩
      (show (t.val - 1) / 18 = t.val / 18 by omega)
    unfold pIp at e2 ⊢; unfold pFp at e3 ⊢; unfold pFlag at e4 ⊢
    rw [s3] at e1; rw [s0, s1, s3, s4, s5, s6, s7] at e2; rw [s1, s6, s7] at e3; rw [s0, s1, s4, s5, s6, s7] at e4
    exact ⟨e1, ⟨o1, e2⟩, ⟨o2, e3⟩, fun _ => e4⟩

/-! ## The proof data and the body at every point -/

/-- What the core holds between points: the six scratch buffers at contents the invariant allows, and the random-number register. -/
def PhiS (c : Dev nD) (k : ℕ) (_ : k ≤ cfg0.N) : sProp 𝕄 :=
  iprop(∃ X11 : Vec F S9216x2560 .bf16, ∃ X12 : Vec F S9216x128 .i32, ∃ X13 : Vec F S512x2560 .bf16, ∃ X14 : Vec F S8x512 .i32,
    ∃ X15 : Vec F S8x512 .f32, ∃ X16 : Vec F S1 .i32, ⌜Inv m c k X11 X12 X13 X14 X15 X16⌝
    ∗ owns (c : Thread nD τ) (Memref.whole cc0_scratch0) fullShare X11 ∗ owns (c : Thread nD τ) (Memref.whole cc0_scratch1) fullShare X12
    ∗ owns (c : Thread nD τ) (Memref.whole cc0_scratch2) fullShare X13 ∗ owns (c : Thread nD τ) (Memref.whole cc0_scratch3) fullShare X14
    ∗ owns (c : Thread nD τ) (Memref.whole cc0_scratch4) fullShare X15 ∗ owns (c : Thread nD τ) (Memref.whole cc0_scratch5) fullShare X16
    ∗ ∃ r, prngReg c r)

/-- The pipeline's proof data: inputs left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = outAt m c t := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body at any point keeps the invariant and leaves `outAt` in the output's staging buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [Phi_castSucc, Phi_succ, show (dats m 0 c).owesAt () t.succ = (dats m 0 c).owesAt () t.castSucc from rfl,
    after0_0, after0_1, after0_2, after0_3, after0_4, after0_5, after0_6, after0_7, after0_8]
  unfold PhiS
  iintro ⟨⟨%X11, %X12, %X13, %X14, %X15, %X16, %hI, S0, S1, S2, S3, S4, S5, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨p1, ⟨o1, p2⟩, ⟨o2, p3⟩, p4⟩ := par_inv m c t X11 X12 X13 X14 X15 X16 hI
  have hX := aX_inv m c t X11 hI.1
  have hR := aR_inv m c t X12 hI.2.1
  iapply (wp_body (grid0.coords t) _ _ _ _ _ _ _ _ _ _ _ _ _ _ _ _ _ _ _ _ _ _ _ _ _ _ _ _ _ _ c (pFlag m c t) (bZa m c t) (bZc m c t) (bX m c t) (bWt m c t) (bZb m c t) (bBias m c t) (bM m c t) (bS m c t)
    ((dats m 0 c).before 8 t d8) X11 X12 X13 X14 X15 X16 (fun _ => rfl) p4 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  have hout : outPut (grid0.coords t) (bZc m c t) (bM m c t) (bS m c t) ((dats m 0 c).before 8 t d8) (aX (grid0.coords t) (bX m c t) X11)
      (aR (grid0.coords t) (bX m c t) X12) (bW (grid0.coords t) (bWt m c t) X13)
      (bI (grid0.coords t) (bZa m c t) (bZc m c t) (bWt m c t) (bZb m c t) (bBias m c t) (bM m c t) (bS m c t) X14)
      (bF (grid0.coords t) (bZc m c t) (bM m c t) (bS m c t) X15) (pFlag m c t) = outAt m c t := by
    rw [p1, p2, p3]; unfold outAt
    exact outPut_congr t _ _ _ _ _ _ _ _ _ _ _ _ _ _ _ hX hR (fun y hy => ipOf_congr _ _ _ _ _ _ _ _ _ y hy) (fun y hy => fpOf_congr _ _ _ _ _ y hy)
  rw [hout]
  isplitl [S0 S1 S2 S3 S4 S5 Hg]
  · iexists _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact Hg
    ipureintro
    refine ⟨hX, hR, fun t' ht' => ?_⟩
    obtain rfl : t' = t := Fin.ext (by omega)
    exact ⟨p1, ⟨o1, p2⟩, ⟨o2, p3⟩, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Entering the region: the scratch buffers at whatever they hold, nothing claimed of them. -/
theorem Phi_in (c : Dev nD) : Pipeline.ΦA spec0 c ⊢ (dats m 0 c).Φ 0 := by
  rw [show (dats m 0 c).Φ 0 = PhiS m c 0 (Nat.zero_le _) from by dsimp only [dats]; rfl]
  unfold Pipeline.ΦA PhiS
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, Hg⟩
  iexists f0, f1, f2, f3, f4, f5
  isplitr
  swap
  · isplitl [S0]; · iexact S0
    isplitl [S1]; · iexact S1
    isplitl [S2]; · iexact S2
    isplitl [S3]; · iexact S3
    isplitl [S4]; · iexact S4
    isplitl [S5]; · iexact S5
    iexact Hg
  ipureintro
  exact ⟨fun y hy => absurd hy (by omega), fun y hy => absurd hy (by omega), fun t ht => absurd ht (by omega)⟩

/-- Leaving the region: the scratch buffers are given back. -/
theorem Phi_out (c : Dev nD) : (dats m 0 c).Φ (Fin.last cfg0.N) ⊢ Pipeline.ΦA spec0 c := by
  rw [show (dats m 0 c).Φ (Fin.last cfg0.N) = PhiS m c cfg0.N le_rfl from by dsimp only [dats]; rfl]
  unfold Pipeline.ΦA PhiS
  rw [scopedRest0_eq]
  simp only [owns_whole]
  iintro ⟨%X11, %X12, %X13, %X14, %X15, %X16, -, S0, S1, S2, S3, S4, S5, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- Every fair run terminates, every array ends at what the proof data says, and every counter is back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The frame: every fair run terminates without fault, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (frame_of m ρ (dats m) (A_eq m)) (run_main m ρ)

end Cert.Proof.KI

end
-- ==== Proof.Requant.lean ====
module

public import Idealize.ShloMosaic.Lib.Pointwise

@[expose] public section

set_option maxRecDepth 8192

/-! The requantization of one 32-bit accumulator word, as the reference computes it and as the kernel's exact path
computes it, and the integer both denote. -/

namespace Cert.Proof.Rq

open Idealize.ShloMosaic

/-- Every 32-bit shift is the same word on the host and on the vector unit. -/
theorem shrui_host (x y : BitVec 32) : IntOp.shrui .host x y = IntOp.shrui .vector x y := rfl
theorem shli_host (x y : BitVec 32) : IntOp.shli .host x y = IntOp.shli .vector x y := rfl
theorem shrsi_host (x y : BitVec 32) : IntOp.shrsi .host x y = IntOp.shrsi .vector x y := rfl

/-! ## The words both programs share -/

/-- One where the word is negative. -/
def neg (a : BitVec 32) : BitVec 1 := IntOp.cmpi .slt a 0#32
/-- The product of the low halves. -/
def loP (u m : BitVec 32) : BitVec 32 := IntOp.muli (IntOp.andi u 65535#32) (IntOp.andi m 65535#32)
/-- The sum of the two cross products of halves. -/
def midP (u m : BitVec 32) : BitVec 32 :=
  IntOp.addi (IntOp.muli (IntOp.shrui .vector u 16#32) (IntOp.andi m 65535#32)) (IntOp.muli (IntOp.andi u 65535#32) (IntOp.shrui .vector m 16#32))
/-- The low product's carry into the middle, with the middle's low half. -/
def tP (u m : BitVec 32) : BitVec 32 := IntOp.addi (IntOp.shrui .vector (loP u m) 16#32) (IntOp.andi (midP u m) 65535#32)
/-- The low word of the 64-bit product. -/
def lowP (u m : BitVec 32) : BitVec 32 :=
  IntOp.ori (IntOp.shli .vector (IntOp.andi (tP u m) 65535#32) 16#32) (IntOp.andi (loP u m) 65535#32)
/-- The high word of the 64-bit product. -/
def hiP (u m : BitVec 32) : BitVec 32 :=
  IntOp.addi (IntOp.addi (IntOp.muli (IntOp.shrui .vector u 16#32) (IntOp.shrui .vector m 16#32)) (IntOp.shrui .vector (midP u m) 16#32))
    (IntOp.shrui .vector (tP u m) 16#32)
/-- The rounding term added to the product of magnitudes. -/
def rnd (n : BitVec 1) : BitVec 32 := Scalar.select n 1073741823#32 1073741824#32
/-- The result word: the zero point added, clamped to 0 … 255, the low byte. -/
def outB (d zc : BitVec 32) : BitVec 8 := BitVec.setWidth 8 (IntOp.minsi 255#32 (IntOp.maxsi 0#32 (IntOp.addi d zc)))

/-! ## The reference's words -/

/-- The reference's rounded quotient by 2³¹, from the sign and the product's two words. -/
def quotR (n : BitVec 1) (lo hi : BitVec 32) : BitVec 32 :=
  Scalar.select n
    (-IntOp.ori (IntOp.shli .vector (IntOp.addi hi (BitVec.setWidth 32 (IntOp.cmpi .ult (IntOp.addi lo (rnd n)) lo))) 1#32)
      (IntOp.shrui .vector (IntOp.addi lo (rnd n)) 31#32))
    (IntOp.ori (IntOp.shli .vector (IntOp.addi hi (BitVec.setWidth 32 (IntOp.cmpi .ult (IntOp.addi lo (rnd n)) lo))) 1#32)
      (IntOp.shrui .vector (IntOp.addi lo (rnd n)) 31#32))
/-- The reference's mask of the bits shifted out. -/
def maskR (s : BitVec 32) : BitVec 32 := IntOp.subi (IntOp.shli .vector 1#32 s) 1#32
/-- The reference's rounding shift. -/
def divR (q s : BitVec 32) : BitVec 32 :=
  IntOp.addi (IntOp.shrsi .vector q s)
    (BitVec.setWidth 32 (IntOp.cmpi .sgt (IntOp.andi q (maskR s)) (IntOp.addi (IntOp.shrsi .vector (maskR s) 1#32) (BitVec.setWidth 32 (neg q)))))
/-- The reference's requantization of the accumulator word `a`: multiplier `m`, shift `s`, zero point `zc`. -/
def reqR (a m s zc : BitVec 32) : BitVec 8 :=
  outB (divR (quotR (neg a) (lowP (IntOp.absi a) m) (hiP (IntOp.absi a) m)) s) zc

/-! ## The kernel's words on its exact path -/

/-- The kernel's magnitude of a word. -/
def absK (a : BitVec 32) : BitVec 32 := Scalar.select (neg a) (IntOp.subi 0#32 a) a
/-- The kernel's rounded magnitude: its carry test is signed, on words whose top bits are flipped. -/
def magK (n : BitVec 1) (lo hi : BitVec 32) : BitVec 32 :=
  IntOp.ori (IntOp.shli .vector (IntOp.addi hi (BitVec.setWidth 32
      (IntOp.cmpi .slt (IntOp.xori (IntOp.addi lo (rnd n)) 2147483648#32) (IntOp.xori lo 2147483648#32)))) 1#32)
    (IntOp.shrui .vector (IntOp.addi lo (rnd n)) 31#32)
/-- The kernel's rounded quotient by 2³¹. -/
def quotK (n : BitVec 1) (lo hi : BitVec 32) : BitVec 32 := Scalar.select n (IntOp.subi 0#32 (magK n lo hi)) (magK n lo hi)
/-- One where the shift is within the word. -/
def inW (s : BitVec 32) : BitVec 1 := IntOp.andi (IntOp.cmpi .sge s 0#32) (IntOp.cmpi .slt s 32#32)
/-- The shift the kernel applies: zero where it is not within the word. -/
def shK (s : BitVec 32) : BitVec 32 := Scalar.select (inW s) s 0#32
/-- The kernel's mask of the bits shifted out. -/
def maskK (s : BitVec 32) : BitVec 32 := IntOp.subi (Scalar.select (inW s) (IntOp.shli .vector 1#32 (shK s)) 0#32) 1#32
/-- The kernel's rounding shift. -/
def divK (q s : BitVec 32) : BitVec 32 :=
  IntOp.addi (Scalar.select (inW s) (IntOp.shrsi .vector q (shK s)) (IntOp.shrsi .vector q 31#32))
    (BitVec.setWidth 32 (IntOp.cmpi .sgt (IntOp.andi q (maskK s)) (IntOp.addi (IntOp.shrsi .vector (maskK s) 1#32) (BitVec.setWidth 32 (neg q)))))
/-- The kernel's requantization of the accumulator word `a` on its exact path. -/
def reqK (a m s zc : BitVec 32) : BitVec 8 := outB (divK (quotK (neg a) (lowP (absK a) m) (hiP (absK a) m)) s) zc

/-! ## The two agree on every word -/

theorem absK_eq (a : BitVec 32) : absK a = IntOp.absi a := by
  simp only [absK, neg, IntOp.absi, Scalar.select, IntOp.cmpi, IntOp.subi, BitVec.slt_zero_eq_msb]
  cases a.msb <;> simp

/-- Flipping the top bit moves a word by half the range. -/
theorem toNat_flip (x : BitVec 32) :
    (x ^^^ 2147483648#32).toNat = if x.toNat < 2147483648 then x.toNat + 2147483648 else x.toNat - 2147483648 := by
  have h1 : (x.toNat ^^^ 2147483648) % 2 ^ 31 = x.toNat % 2 ^ 31 := by rw [Nat.xor_mod_two_pow]; simp
  have h2 : (x.toNat ^^^ 2147483648) / 2 ^ 31 = x.toNat / 2 ^ 31 ^^^ 1 := by rw [Nat.xor_div_two_pow]
  have hx := x.isLt
  rw [BitVec.toNat_xor, show (2147483648#32 : BitVec 32).toNat = 2147483648 from rfl]
  by_cases h : x.toNat < 2147483648
  · have : x.toNat / 2 ^ 31 = 0 := by omega
    rw [this] at h2; simp only [h, if_true]
    have : (0 ^^^ 1 : ℕ) = 1 := rfl
    omega
  · have : x.toNat / 2 ^ 31 = 1 := by omega
    rw [this] at h2; simp only [h, if_false]
    have : (1 ^^^ 1 : ℕ) = 0 := rfl
    omega

/-- The signed comparison of two words whose top bits are flipped is the unsigned comparison. -/
theorem slt_flip (x y : BitVec 32) :
    IntOp.cmpi .slt (IntOp.xori x 2147483648#32) (IntOp.xori y 2147483648#32) = IntOp.cmpi .ult x y := by
  simp only [IntOp.cmpi, IntOp.xori]
  congr 1
  rw [BitVec.slt_eq_ult, Bool.eq_iff_iff]
  simp only [BitVec.ult_eq_decide, BitVec.msb_eq_decide]
  have hx := toNat_flip x
  have hy := toNat_flip y
  have := x.isLt; have := y.isLt
  generalize (x ^^^ 2147483648#32).toNat = p at *
  generalize (y ^^^ 2147483648#32).toNat = q at *
  generalize x.toNat = a at *
  generalize y.toNat = b at *
  norm_num only
  by_cases h1 : 2147483648 ≤ p <;> by_cases h2 : 2147483648 ≤ q <;> by_cases h3 : p < q <;> by_cases h4 : a < b <;>
    simp only [h1, h2, h3, h4, decide_true, decide_false] <;> first | decide | (exfalso; split at hx <;> split at hy <;> omega)

theorem quotK_eq (n : BitVec 1) (lo hi : BitVec 32) : quotK n lo hi = quotR n lo hi := by
  simp only [quotK, quotR, magK, slt_flip, IntOp.subi, BitVec.zero_sub]

theorem inW_iff (s : BitVec 32) : inW s = 1#1 ↔ s.toNat < 32 := by
  simp only [inW, IntOp.andi, IntOp.cmpi]
  have h : (s.toInt = if 2 * s.toNat < 2 ^ 32 then (s.toNat : ℤ) else s.toNat - 2 ^ 32) := by
    rw [BitVec.toInt_eq_toNat_cond]; norm_num
  have h0 : (0#32).sle s = decide (0 ≤ s.toInt) := by simp [BitVec.sle_eq_decide]
  have h1 : s.slt 32#32 = decide (s.toInt < 32) := by simp [BitVec.slt_eq_decide]
  rw [h0, h1]
  have := s.isLt
  by_cases a : 0 ≤ s.toInt <;> by_cases b : s.toInt < 32 <;> simp [a, b] <;> split at h <;> omega

theorem shrsi_big (q s : BitVec 32) (h : ¬ s.toNat < 32) : IntOp.shrsi .vector q s = IntOp.shrsi .vector q 31#32 := by
  simp only [IntOp.shrsi, h, if_false, IntOp.cornerWord]
  simp
  by_cases hm : q.msb
  · simp only [hm, if_true]
    ext i hi
    simp only [BitVec.getElem_sshiftRight, hm]
    rw [show (4294967295#32 : BitVec 32) = BitVec.allOnes 32 from rfl, BitVec.getElem_allOnes]
    split
    · have : i = 0 := by omega
      subst this; simpa [BitVec.msb_eq_getLsbD_last] using hm.symm
    · rfl
  · simp only [hm]
    ext i hi
    simp [BitVec.getElem_sshiftRight, hm]
    intro h; have : i = 0 := by omega
    subst this; simpa [BitVec.msb_eq_getLsbD_last] using hm

theorem divK_eq (q s : BitVec 32) : divK q s = divR q s := by
  have hm : maskK s = maskR s := by
    simp only [maskK, maskR, shK, Scalar.select]
    by_cases h : s.toNat < 32
    · simp [(inW_iff s).2 h]
    · have : inW s ≠ 1 := fun e => h ((inW_iff s).1 e)
      simp only [this, if_false, IntOp.shli, h, IntOp.cornerWord]; rfl
  simp only [divK, divR, hm, shK, Scalar.select]
  by_cases h : s.toNat < 32
  · simp [(inW_iff s).2 h]
  · have : inW s ≠ 1 := fun e => h ((inW_iff s).1 e)
    simp only [this, if_false]
    rw [shrsi_big q s h]

/-- The kernel's exact path requantizes every word as the reference does. -/
theorem reqK_eq (a m s zc : BitVec 32) : reqK a m s zc = reqR a m s zc := by
  simp only [reqK, reqR, absK_eq, quotK_eq, divK_eq]

end Cert.Proof.Rq

end
-- ==== Proof.RequantInt.lean ====
module

public import proofs.«01_k».proof.Proof.Requant

@[expose] public section

set_option maxRecDepth 8192

/-! The integer the reference's requantization denotes, where the multiplier, the shift and the zero points are in the
ranges the kernel's fast path asks for. -/

namespace Cert.Proof.Rq

open Idealize.ShloMosaic

/-! ## The words as natural numbers -/

theorem toNat_lo16 (u : BitVec 32) : (IntOp.andi u 65535#32).toNat = u.toNat % 65536 := by
  simp only [IntOp.andi, BitVec.toNat_and]
  exact Nat.and_two_pow_sub_one_eq_mod u.toNat 16
theorem toNat_hi16 (u : BitVec 32) : (IntOp.shrui .vector u 16#32).toNat = u.toNat / 65536 := by
  show (u >>> (16#32)).toNat = _
  simp [Nat.shiftRight_eq_div_pow]
theorem toNat_shr31 (u : BitVec 32) : (IntOp.shrui .vector u 31#32).toNat = u.toNat / 2147483648 := by
  show (u >>> (31#32)).toNat = _
  simp [Nat.shiftRight_eq_div_pow]
theorem toNat_shl16 (u : BitVec 32) : (IntOp.shli .vector u 16#32).toNat = u.toNat * 65536 % 4294967296 := by
  show (u <<< (16#32)).toNat = _
  simp [Nat.shiftLeft_eq]
theorem toNat_shl1 (u : BitVec 32) : (IntOp.shli .vector u 1#32).toNat = u.toNat * 2 % 4294967296 := by
  show (u <<< (1#32)).toNat = _
  simp [Nat.shiftLeft_eq]
/-- Disjoint words joined: a multiple of a power of two and a word below it. -/
theorem toNat_join (k : ℕ) (x y : BitVec 32) (a : ℕ) (hx : x.toNat = 2 ^ k * a) (hy : y.toNat < 2 ^ k) :
    (IntOp.ori x y).toNat = x.toNat + y.toNat := by
  simp only [IntOp.ori, BitVec.toNat_or, hx]
  exact (Nat.two_pow_add_eq_or_of_lt hy a).symm

theorem toNat_mul_lt (x y : BitVec 32) (p : ℕ) (h : x.toNat * y.toNat = p) (hp : p < 4294967296) : (IntOp.muli x y).toNat = p := by
  simp only [IntOp.muli, BitVec.toNat_mul, h]; exact Nat.mod_eq_of_lt hp
theorem toNat_addi (x y : BitVec 32) : (IntOp.addi x y).toNat = (x.toNat + y.toNat) % 4294967296 := by
  simp only [IntOp.addi, BitVec.toNat_add]

/-- The two words of the product by halves are the product. -/
theorem limbs (u m : BitVec 32) (hu : u.toNat ≤ 2147483648) (hm : m.toNat < 2147483648) :
    (lowP u m).toNat + 4294967296 * (hiP u m).toNat = u.toNat * m.toNat := by
  obtain ⟨a1, ha1⟩ : ∃ a, a = u.toNat / 65536 := ⟨_, rfl⟩
  obtain ⟨a0, ha0⟩ : ∃ a, a = u.toNat % 65536 := ⟨_, rfl⟩
  obtain ⟨b1, hb1⟩ : ∃ a, a = m.toNat / 65536 := ⟨_, rfl⟩
  obtain ⟨b0, hb0⟩ : ∃ a, a = m.toNat % 65536 := ⟨_, rfl⟩
  have hU : u.toNat = a1 * 65536 + a0 := by omega
  have hM : m.toNat = b1 * 65536 + b0 := by omega
  have l1 : a1 ≤ 32768 := by omega
  have l0 : a0 ≤ 65535 := by omega
  have k1 : b1 ≤ 32767 := by omega
  have k0 : b0 ≤ 65535 := by omega
  have p00 : a0 * b0 ≤ 65535 * 65535 := Nat.mul_le_mul l0 k0
  have p10 : a1 * b0 ≤ 32768 * 65535 := Nat.mul_le_mul l1 k0
  have p01 : a0 * b1 ≤ 65535 * 32767 := Nat.mul_le_mul l0 k1
  have p11 : a1 * b1 ≤ 32768 * 32767 := Nat.mul_le_mul l1 k1
  have hlo : (loP u m).toNat = a0 * b0 := toNat_mul_lt _ _ _ (by rw [toNat_lo16, toNat_lo16, ha0, hb0]) (by omega)
  have hmid : (midP u m).toNat = a1 * b0 + a0 * b1 := by
    rw [midP, toNat_addi, toNat_mul_lt _ _ (a1 * b0) (by rw [toNat_hi16, toNat_lo16, ha1, hb0]) (by omega),
      toNat_mul_lt _ _ (a0 * b1) (by rw [toNat_hi16, toNat_lo16, ha0, hb1]) (by omega)]
    omega
  have ht : (tP u m).toNat = a0 * b0 / 65536 + (a1 * b0 + a0 * b1) % 65536 := by
    rw [tP, toNat_addi, toNat_hi16, toNat_lo16, hlo, hmid]; omega
  have hl : (lowP u m).toNat = (tP u m).toNat % 65536 * 65536 + a0 * b0 % 65536 := by
    have e1 : (IntOp.shli .vector (IntOp.andi (tP u m) 65535#32) 16#32).toNat = 2 ^ 16 * ((tP u m).toNat % 65536) := by
      rw [toNat_shl16, toNat_lo16]; omega
    have e2 : (IntOp.andi (loP u m) 65535#32).toNat = a0 * b0 % 65536 := by rw [toNat_lo16, hlo]
    rw [lowP, toNat_join 16 _ _ _ e1 (by rw [e2]; omega), e1, e2]; omega
  have hh : (hiP u m).toNat = a1 * b1 + (a1 * b0 + a0 * b1) / 65536 + (tP u m).toNat / 65536 := by
    rw [hiP, toNat_addi, toNat_addi, toNat_hi16, toNat_hi16, hmid,
      toNat_mul_lt _ _ (a1 * b1) (by rw [toNat_hi16, toNat_hi16, ha1, hb1]) (by omega)]
    omega
  have hp : u.toNat * m.toNat = (a1 * b1) * 4294967296 + (a1 * b0 + a0 * b1) * 65536 + a0 * b0 := by rw [hU, hM]; ring
  rw [hp, hl, hh, ht]
  omega

/-- The rounded magnitude: the product's words plus the rounding term, divided by 2³¹. -/
theorem toNat_mag (lo hi r : BitVec 32) (p : ℕ) (hp : lo.toNat + 4294967296 * hi.toNat = p) (hb : p + r.toNat < 2147483648 * 2147483648) :
    (IntOp.ori (IntOp.shli .vector (IntOp.addi hi (BitVec.setWidth 32 (IntOp.cmpi .ult (IntOp.addi lo r) lo))) 1#32)
      (IntOp.shrui .vector (IntOp.addi lo r) 31#32)).toNat = (p + r.toNat) / 2147483648 := by
  have h1 := lo.isLt
  have h2 := r.isLt
  have h3 := hi.isLt
  have hs := toNat_addi lo r
  have hc : (BitVec.setWidth 32 (IntOp.cmpi .ult (IntOp.addi lo r) lo)).toNat = if (IntOp.addi lo r).toNat < lo.toNat then 1 else 0 := by
    simp only [IntOp.cmpi, BitVec.ult_eq_decide]
    split <;> rename_i h <;> simp [h]
  have e1 : (IntOp.shli .vector (IntOp.addi hi (BitVec.setWidth 32 (IntOp.cmpi .ult (IntOp.addi lo r) lo))) 1#32).toNat
      = 2 ^ 1 * (hi.toNat + if (IntOp.addi lo r).toNat < lo.toNat then 1 else 0) := by
    rw [toNat_shl1, toNat_addi, hc]
    split at hc <;> rename_i h <;> simp only [h, if_true, if_false] <;> omega
  have e2 := toNat_shr31 (IntOp.addi lo r)
  rw [toNat_join 1 _ _ _ e1 (by rw [e2]; omega), e1, e2]
  split <;> omega

/-! ## The integers -/

/-- The quotient by 2³¹ of the product, rounded half away from zero short of the negative ties. -/
def quotZ (A M : ℤ) : ℤ := if A < 0 then -((-A * M + 1073741823) / 2147483648) else (A * M + 1073741824) / 2147483648
/-- The rounding division by a power of two. -/
def divZ (q p : ℤ) : ℤ := q / p + if q % p > (p - 1) / 2 + (if q < 0 then 1 else 0) then 1 else 0

theorem absi_toNat (a : BitVec 32) : ((IntOp.absi a).toNat : ℤ) = |a.toInt| := by
  simp only [IntOp.absi]
  have h := a.isLt
  have hi : a.toInt = if a.msb then (a.toNat : ℤ) - 4294967296 else a.toNat := by rw [BitVec.toInt_eq_msb_cond]; norm_num
  have hm : a.msb = decide (2147483648 ≤ a.toNat) := by rw [BitVec.msb_eq_decide]
  rw [hi]
  by_cases c : 2147483648 ≤ a.toNat
  · simp only [hm, c, decide_true, if_true, BitVec.toNat_neg]
    rw [abs_of_neg (by omega)]; omega
  · simp only [hm, c, decide_false]
    simp

theorem neg_iff (a : BitVec 32) : neg a = 1#1 ↔ a.toInt < 0 := by
  simp only [neg, IntOp.cmpi, BitVec.slt_eq_decide]
  by_cases h : a.toInt < 0 <;> simp [h]

theorem select_neg {α : Type} (a : BitVec 32) (x y : α) : Scalar.select (neg a) x y = if a.toInt < 0 then x else y := by
  by_cases h : a.toInt < 0
  · rw [if_pos h, (neg_iff a).2 h]; rfl
  · rw [if_neg h]; exact if_neg fun e => h ((neg_iff a).1 e)

theorem toInt_of_lt (r : BitVec 32) (h : r.toNat < 2147483648) : r.toInt = r.toNat := by
  rw [BitVec.toInt_eq_toNat_cond]; omega

theorem toInt_neg_of_lt (r : BitVec 32) (h : r.toNat < 2147483648) : (-r).toInt = -(r.toNat : ℤ) := by
  rw [BitVec.toInt_neg, toInt_of_lt r h]; apply Int.bmod_eq_of_le <;> omega

/-- The reference's quotient word is the integer quotient. -/
theorem quot_toInt (a m : BitVec 32) (hm : 0 ≤ m.toInt) (ha : -2147483648 < a.toInt) :
    (quotR (neg a) (lowP (IntOp.absi a) m) (hiP (IntOp.absi a) m)).toInt = quotZ a.toInt m.toInt ∧
      |quotZ a.toInt m.toInt| < 2147483648 := by
  have hu := absi_toNat a
  have hml : m.toNat < 2147483648 := by have := m.isLt; rw [BitVec.toInt_eq_toNat_cond] at hm; omega
  have hmi := toInt_of_lt m hml
  have hai : a.toInt < 2147483648 := by have := BitVec.toInt_lt (x := a); norm_num at this; exact this
  have habs : |a.toInt| ≤ 2147483647 := abs_le.2 ⟨by omega, by omega⟩
  have hP : (IntOp.absi a).toNat * m.toNat ≤ 2147483647 * 2147483647 := Nat.mul_le_mul (by omega) (by omega)
  have hl := limbs (IntOp.absi a) m (by omega) hml
  have hPz : (((IntOp.absi a).toNat * m.toNat : ℕ) : ℤ) = |a.toInt| * m.toInt := by push_cast; rw [hu, hmi]
  have hr : (rnd (neg a)).toNat = if a.toInt < 0 then 1073741823 else 1073741824 := by
    rw [rnd, select_neg]; split <;> rfl
  have hmag := toNat_mag _ _ (rnd (neg a)) _ hl (by rw [hr]; split <;> omega)
  rw [hr] at hmag
  by_cases h : a.toInt < 0
  · rw [abs_of_neg h] at hPz
    rw [if_pos h] at hmag
    simp only [quotR, select_neg, quotZ, h, if_true]
    rw [toInt_neg_of_lt _ (by omega), hmag, ← hPz]
    refine ⟨by push_cast; ring_nf, ?_⟩
    rw [abs_neg, abs_of_nonneg (by omega)]; omega
  · rw [abs_of_nonneg (by omega)] at hPz
    rw [if_neg h] at hmag
    simp only [quotR, select_neg, quotZ, h, if_false]
    rw [toInt_of_lt _ (by omega), hmag, ← hPz]
    refine ⟨by push_cast; ring_nf, ?_⟩
    rw [abs_of_nonneg (by omega)]; omega

/-! ## The shift and the clamp -/

/-- The powers of two the fast path's shifts are. -/
theorem pow_cases (k : ℕ) (h1 : 3 ≤ k) (h2 : k ≤ 12) :
    2 ^ k = 8 ∨ 2 ^ k = 16 ∨ 2 ^ k = 32 ∨ 2 ^ k = 64 ∨ 2 ^ k = 128 ∨ 2 ^ k = 256 ∨ 2 ^ k = 512 ∨ 2 ^ k = 1024 ∨ 2 ^ k = 2048 ∨ 2 ^ k = 4096 := by
  interval_cases k <;> decide

theorem maskR_toNat (s : BitVec 32) (h : s.toNat < 31) : (maskR s).toNat = 2 ^ s.toNat - 1 := by
  have hp : 2 ^ s.toNat < 2 ^ 31 := Nat.pow_lt_pow_right (by norm_num) h
  have h1 : 1 ≤ 2 ^ s.toNat := Nat.one_le_two_pow
  have e : (IntOp.shli .vector 1#32 s).toNat = 2 ^ s.toNat := by
    simp only [IntOp.shli, show s.toNat < 32 by omega, if_true]
    rw [BitVec.shiftLeft_eq', BitVec.toNat_shiftLeft, Nat.shiftLeft_eq]
    rw [show (1#32 : BitVec 32).toNat = 1 from rfl, one_mul]
    exact Nat.mod_eq_of_lt (by omega)
  simp only [maskR, IntOp.subi, BitVec.toNat_sub, e]
  rw [show (1#32 : BitVec 32).toNat = 1 from rfl]; omega

/-- The reference's rounding shift is the rounding division. -/
theorem div_toInt (q s : BitVec 32) (h1 : 3 ≤ s.toNat) (h2 : s.toNat ≤ 12) :
    (divR q s).toInt = divZ q.toInt (2 ^ s.toNat) := by
  have hm := maskR_toNat s (by omega)
  have hsh : (IntOp.shrsi .vector q s).toInt = q.toInt / 2 ^ s.toNat := by
    simp only [IntOp.shrsi, show s.toNat < 32 by omega, if_true]
    rw [BitVec.toInt_sshiftRight', Int.shiftRight_eq_div_pow]; norm_cast
  have hq1 := BitVec.toInt_lt (x := q)
  have hq2 := BitVec.le_toInt (x := q)
  norm_num at hq1 hq2
  have hqi : q.toInt = if 2 * q.toNat < 4294967296 then (q.toNat : ℤ) else q.toNat - 4294967296 := by rw [BitVec.toInt_eq_toNat_cond]; norm_num
  have hrem : (IntOp.andi q (maskR s)).toNat = q.toNat % 2 ^ s.toNat := by
    simp only [IntOp.andi, BitVec.toNat_and, hm]; exact Nat.and_two_pow_sub_one_eq_mod _ _
  have hhalf : (IntOp.shrsi .vector (maskR s) 1#32).toInt = ((2 ^ s.toNat - 1 : ℕ) : ℤ) / 2 := by
    show ((maskR s).sshiftRight' 1#32).toInt = _
    have : 2 ^ s.toNat < 2 ^ 31 := Nat.pow_lt_pow_right (by norm_num) (by omega)
    rw [BitVec.toInt_sshiftRight', Int.shiftRight_eq_div_pow, toInt_of_lt _ (by omega), hm]; rfl
  have hn : (BitVec.setWidth 32 (neg q)).toInt = if q.toInt < 0 then 1 else 0 := by
    by_cases h : q.toInt < 0
    · rw [if_pos h, (neg_iff q).2 h]; rfl
    · rw [if_neg h]
      have : neg q = 0#1 := by
        have := mt (neg_iff q).1 h
        revert this; generalize neg q = n; revert n; decide
      rw [this]; rfl
  have hp := pow_cases s.toNat h1 h2
  generalize hP : 2 ^ s.toNat = P at *
  have hPz : ((2 : ℤ) ^ s.toNat) = (P : ℤ) := by rw [← hP]; norm_cast
  try rw [hPz] at hsh
  have ethr : (IntOp.addi (IntOp.shrsi .vector (maskR s) 1#32) (BitVec.setWidth 32 (neg q))).toInt
      = ((P - 1 : ℕ) : ℤ) / 2 + if q.toInt < 0 then 1 else 0 := by
    simp only [IntOp.addi, BitVec.toInt_add, hhalf, hn]
    apply Int.bmod_eq_of_le <;> split <;> omega
  have erem : (IntOp.andi q (maskR s)).toInt = q.toInt % P := by
    rw [toInt_of_lt _ (by rw [hrem]; rcases hp with h | h | h | h | h | h | h | h | h | h <;> rw [h] <;> omega), hrem, hqi]
    rcases hp with h | h | h | h | h | h | h | h | h | h <;> rw [h] <;> split <;> omega
  have hc : (BitVec.setWidth 32 (IntOp.cmpi .sgt (IntOp.andi q (maskR s))
      (IntOp.addi (IntOp.shrsi .vector (maskR s) 1#32) (BitVec.setWidth 32 (neg q))))).toInt
      = if q.toInt % P > ((P - 1 : ℕ) : ℤ) / 2 + (if q.toInt < 0 then 1 else 0) then 1 else 0 := by
    simp only [IntOp.cmpi, BitVec.slt_eq_decide, ethr, erem]
    generalize hb : decide ((((P - 1 : ℕ) : ℤ) / 2 + if q.toInt < 0 then 1 else 0) < q.toInt % P) = b
    cases b
    · rw [if_neg (by simpa using hb)]; rfl
    · rw [if_pos (by simpa using hb)]; rfl
  simp only [divR, IntOp.addi, BitVec.toInt_add] at hc ⊢
  rw [hc, hsh, divZ]
  try rw [hPz]
  have hsub : ((P - 1 : ℕ) : ℤ) = (P : ℤ) - 1 := by omega
  rw [hsub]
  rcases hp with h | h | h | h | h | h | h | h | h | h <;> rw [h] <;> (apply Int.bmod_eq_of_le <;> split <;> omega)

theorem toInt_maxsi (x y : BitVec 32) : (IntOp.maxsi x y).toInt = max x.toInt y.toInt := by
  simp only [IntOp.maxsi, BitVec.slt_eq_decide]
  by_cases h : y.toInt < x.toInt
  · simp [h, max_eq_left h.le]
  · simp [h, max_eq_right (not_lt.1 h)]
theorem toInt_minsi (x y : BitVec 32) : (IntOp.minsi x y).toInt = min x.toInt y.toInt := by
  simp only [IntOp.minsi, BitVec.slt_eq_decide]
  by_cases h : x.toInt < y.toInt
  · simp [h, min_eq_left h.le]
  · simp [h, min_eq_right (not_lt.1 h)]
/-- A word's low byte is its integer's. -/
theorem setWidth_eq (y : BitVec 32) : BitVec.setWidth 8 y = BitVec.ofInt 8 y.toInt := by
  apply BitVec.eq_of_toNat_eq
  rw [BitVec.toNat_setWidth, BitVec.toNat_ofInt, BitVec.toInt_eq_toNat_cond]
  split <;> omega

/-- The clamped byte of an integer. -/
def byteZ (x : ℤ) : BitVec 8 := BitVec.ofInt 8 (max 0 (min 255 x))

/-- The reference's clamp of a quotient within a quarter of the range is the integer clamp. -/
theorem out_byte (d zc : BitVec 32) (h1 : -1000000000 ≤ d.toInt) (h2 : d.toInt ≤ 1000000000) (h3 : 0 ≤ zc.toInt) (h4 : zc.toInt ≤ 255) :
    outB d zc = byteZ (d.toInt + zc.toInt) := by
  have ha : (IntOp.addi d zc).toInt = d.toInt + zc.toInt := by
    simp only [IntOp.addi, BitVec.toInt_add]; apply Int.bmod_eq_of_le <;> omega
  rw [outB, setWidth_eq, toInt_minsi, toInt_maxsi, ha, byteZ, max_comm, min_comm]
  rw [show (0#32 : BitVec 32).toInt = 0 from rfl, show (255#32 : BitVec 32).toInt = 255 from rfl]
  congr 1; omega

/-- In the fast path's ranges the reference's byte is the clamped integer. -/
theorem reqR_eq (a m s zc : BitVec 32) (hm : 0 ≤ m.toInt) (ha : -2147483648 < a.toInt) (h1 : 3 ≤ s.toNat) (h2 : s.toNat ≤ 12)
    (h3 : 0 ≤ zc.toInt) (h4 : zc.toInt ≤ 255) :
    reqR a m s zc = byteZ (divZ (quotZ a.toInt m.toInt) (2 ^ s.toNat) + zc.toInt) := by
  obtain ⟨hq, hb⟩ := quot_toInt a m hm ha
  have hd := div_toInt (quotR (neg a) (lowP (IntOp.absi a) m) (hiP (IntOp.absi a) m)) s h1 h2
  rw [hq] at hd
  have hb := abs_lt.1 hb
  have hr : -1000000000 ≤ divZ (quotZ a.toInt m.toInt) (2 ^ s.toNat) ∧ divZ (quotZ a.toInt m.toInt) (2 ^ s.toNat) ≤ 1000000000 := by
    generalize quotZ a.toInt m.toInt = q at *
    have hp := pow_cases s.toNat h1 h2
    have hPz : ((2 : ℤ) ^ s.toNat) = ((2 ^ s.toNat : ℕ) : ℤ) := by norm_cast
    rw [hPz, divZ]
    rcases hp with h | h | h | h | h | h | h | h | h | h <;> rw [h] <;> constructor <;> split <;> omega
  rw [reqR, out_byte _ _ (by rw [hd]; exact hr.1) (by rw [hd]; exact hr.2) h3 h4, hd]

end Cert.Proof.Rq

end
-- ==== Proof.FastArith.lean ====
module

public import proofs.«01_k».proof.Proof.RequantInt

@[expose] public section

set_option maxRecDepth 8192

/-! The kernel's fast requantization of one accumulator, over the reals: its rounded value is the reference's integer. -/

namespace Cert.Proof.Rq

open Idealize.ShloMosaic

/-! ## Rounding and conversion -/

/-- Rounding to nearest moves a real by at most a half. -/
theorem rhe_spec (y : ℝ) : (Ideal.roundHalfEven y : ℝ) - 1 / 2 ≤ y ∧ y ≤ Ideal.roundHalfEven y + 1 / 2 := by
  have h1 := Int.floor_le y
  have h2 := Int.lt_floor_add_one y
  simp only [Ideal.roundHalfEven]
  split
  · constructor <;> linarith
  · split
    · push_cast; constructor <;> linarith
    · split
      · constructor <;> linarith
      · push_cast; constructor <;> linarith

theorem rhe_int (z : ℤ) : Ideal.roundHalfEven (z : ℝ) = z := by
  simp [Ideal.roundHalfEven]

/-- The word of an integer-valued real within the range. -/
theorem fptosi_int (z : ℤ) (h1 : -2147483648 ≤ z) (h2 : z ≤ 2147483647) : (FloatOps.fptosi 32 (F := Ideal) (φ := .f32) (((z : ℝ)) : EReal)) = BitVec.ofInt 32 z := by
  show BitVec.ofInt 32 (Ideal.toIntClamped _ _ ((z : ℝ) : EReal)) = _
  congr 1
  show max _ (min _ (if 0 ≤ (z : ℝ) then ⌊(z : ℝ)⌋ else ⌈(z : ℝ)⌉)) = z
  simp only [Int.floor_intCast, Int.ceil_intCast, ite_self]
  norm_num
  omega

/-! ## The integers -/

/-- The fast path's rounded value is the reference's: `L` is the 32-bit remainder it subtracts, `r` a nearest integer. -/
theorem core (X Z P L r j q : ℤ) (n : Prop) [Decidable n]
    (hP : P = 8 ∨ P = 16 ∨ P = 32 ∨ P = 64 ∨ P = 128 ∨ P = 256 ∨ P = 512 ∨ P = 1024 ∨ P = 2048 ∨ P = 4096)
    (hn : n → X ≤ 0) (hp : ¬ n → 0 ≤ X)
    (hq : q = if n then -((-X + 1073741823) / 2147483648) else (X + 1073741824) / 2147483648)
    (hL : L = X + (2 * Z - 255) * P * 1073741824 + 1073741824 + (if n then 0 else 2147483648) + 4294967296 * j)
    (hl : -2147483648 ≤ L) (hu : L < 2147483648)
    (h1 : 2147483648 * P * r ≤ X + (2 * Z - 255) * P * 1073741824 - L)
    (h2 : X + (2 * Z - 255) * P * 1073741824 - L ≤ 2147483648 * P * (r + 1)) :
    r + 128 = divZ q P + Z := by
  rw [divZ]
  by_cases h : n
  · have := hn h
    simp only [h, if_true] at hq hL
    rcases hP with rfl | rfl | rfl | rfl | rfl | rfl | rfl | rfl | rfl | rfl <;> split <;> split at * <;> omega
  · have := hp h
    simp only [h, if_false] at hq hL
    rcases hP with rfl | rfl | rfl | rfl | rfl | rfl | rfl | rfl | rfl | rfl <;> split <;> split at * <;> omega

/-- The clip and the rounding: `v` clipped to ±127.5 and moved by `off` rounds to the clipped rounding of `v + off`. -/
theorem clip_round (v off : ℝ) (d : ℤ) (ho1 : -5 / 8 ≤ off) (ho2 : off ≤ -1 / 2) (hr : Ideal.roundHalfEven (v + off) + 128 = d) :
    Ideal.roundHalfEven (min (255 / 2) (max (-255 / 2) v) + off) + 128 = max 0 (min 255 d) := by
  have s0 := rhe_spec (v + off)
  have s1 := rhe_spec (min (255 / 2) (max (-255 / 2) v) + off)
  have hd : (Ideal.roundHalfEven (v + off) : ℝ) = (d : ℝ) - 128 := by rw [← hr]; push_cast; ring
  have key : ∀ z : ℤ, (z : ℝ) - 1 / 2 ≤ 127 → -129 < (z : ℝ) - 1 / 2 + 1 / 2 + 1 / 2 → z ≤ 127 ∧ -129 ≤ z := fun z h1 h2 => by
    constructor
    · have : (z : ℝ) < 128 := by linarith
      have : z < 128 := by exact_mod_cast this
      omega
    · have : (-130 : ℝ) < z := by linarith
      have : -130 < z := by exact_mod_cast this
      omega
  rcases lt_or_ge (255 / 2) v with h | h
  · have e : min (255 / 2) (max (-255 / 2) v) = 255 / 2 := by rw [max_eq_right (by linarith), min_eq_left h.le]
    rw [e] at s1 ⊢
    have a1 : (Ideal.roundHalfEven (255 / 2 + off) : ℝ) < 128 := by linarith [s1.1]
    have a2 : (126 : ℝ) < Ideal.roundHalfEven (255 / 2 + off) := by linarith [s1.2]
    have a3 : (254 : ℝ) < d := by linarith [s0.2]
    have a1 : Ideal.roundHalfEven (255 / 2 + off) < 128 := by exact_mod_cast a1
    have a2 : 126 < Ideal.roundHalfEven (255 / 2 + off) := by exact_mod_cast a2
    have a3 : 254 < d := by exact_mod_cast a3
    omega
  · rcases lt_or_ge v (-255 / 2) with g | g
    · have e : min (255 / 2) (max (-255 / 2) v) = -255 / 2 := by rw [max_eq_left g.le, min_eq_right (by norm_num)]
      rw [e] at s1 ⊢
      have a1 : (Ideal.roundHalfEven (-255 / 2 + off) : ℝ) < -127 := by linarith [s1.1]
      have a2 : (-129 : ℝ) < Ideal.roundHalfEven (-255 / 2 + off) := by linarith [s1.2]
      have a3 : (d : ℝ) < 1 := by linarith [s0.1]
      have a1 : Ideal.roundHalfEven (-255 / 2 + off) < -127 := by exact_mod_cast a1
      have a2 : -129 < Ideal.roundHalfEven (-255 / 2 + off) := by exact_mod_cast a2
      have a3 : d < 1 := by exact_mod_cast a3
      omega
    · rw [max_eq_right g, min_eq_right h, hr]
      have a1 : (d : ℝ) < 256 := by linarith [s0.1]
      have a2 : (-1 : ℝ) < d := by linarith [s0.2]
      have a1 : d < 256 := by exact_mod_cast a1
      have a2 : -1 < d := by exact_mod_cast a2
      omega

/-! ## The float constants -/

/-- A positive normal `f32` word's value, from its exponent and fraction fields. -/
theorem ofBits_pos (b : BitVec 32) (e f : ℕ) (hn : b.extractLsb' 31 1 = 0#1) (he : (b.extractLsb' 23 8).toNat = e)
    (hf : (b.extractLsb' 0 23).toNat = f) (h0 : e ≠ 0) (h1 : e ≠ 255) :
    Ideal.ofBits .f32 b = (((8388608 + f : ℝ) * (2 : ℝ) ^ ((e : ℤ) - 150) : ℝ) : EReal) := by
  show Ideal.ieee 8 23 b = _
  simp only [Ideal.ieee, hn, he, hf, show (8 + 23) = 31 from rfl]
  rw [if_neg (by omega), if_neg h0]
  congr 1
  rw [if_neg (by decide), one_mul]
  push_cast
  rw [show (e : ℤ) - 127 - 23 = (e : ℤ) - 150 by ring]
/-- A negative normal `f32` word's value. -/
theorem ofBits_neg (b : BitVec 32) (e f : ℕ) (hn : b.extractLsb' 31 1 = 1#1) (he : (b.extractLsb' 23 8).toNat = e)
    (hf : (b.extractLsb' 0 23).toNat = f) (h0 : e ≠ 0) (h1 : e ≠ 255) :
    Ideal.ofBits .f32 b = ((-(8388608 + f : ℝ) * (2 : ℝ) ^ ((e : ℤ) - 150) : ℝ) : EReal) := by
  show Ideal.ieee 8 23 b = _
  simp only [Ideal.ieee, hn, he, hf, show (8 + 23) = 31 from rfl]
  rw [if_neg (by omega), if_neg h0]
  congr 1
  rw [if_pos (by decide)]
  push_cast
  rw [show (e : ℤ) - 127 - 23 = (e : ℤ) - 150 by ring]
  ring

theorem c_pos : Ideal.ofBits .f32 0x42FF0000#32 = ((255 / 2 : ℝ) : EReal) := by
  rw [ofBits_pos _ 133 8323072 (by decide) (by decide) (by decide) (by decide) (by decide)]; norm_num [-EReal.coe_mul, zpow_neg]
theorem c_neg : Ideal.ofBits .f32 0xC2FF0000#32 = ((-255 / 2 : ℝ) : EReal) := by
  rw [ofBits_neg _ 133 8323072 (by decide) (by decide) (by decide) (by decide) (by decide)]; norm_num [-EReal.coe_mul, zpow_neg]
theorem c_half : Ideal.ofBits .f32 0x3F000000#32 = ((1 / 2 : ℝ) : EReal) := by
  rw [ofBits_pos _ 126 0 (by decide) (by decide) (by decide) (by decide) (by decide)]; norm_num [-EReal.coe_mul, zpow_neg]
theorem c_30 : Ideal.ofBits .f32 0x4E800000#32 = ((1073741824 : ℝ) : EReal) := by
  rw [ofBits_pos _ 157 0 (by decide) (by decide) (by decide) (by decide) (by decide)]; norm_num [-EReal.coe_mul, zpow_neg]

/-- A shift word in 3 … 12, as the kernel clips it. -/
def clipS (s : BitVec 32) : BitVec 32 := IntOp.minsi 12#32 (IntOp.maxsi 3#32 s)

theorem clipS_eq (s : BitVec 32) (h1 : 3 ≤ s.toNat) (h2 : s.toNat ≤ 12) : clipS s = s := by
  obtain ⟨k, hk⟩ : ∃ k, k = s.toNat := ⟨_, rfl⟩
  have hs : s = BitVec.ofNat 32 k := by rw [hk]; simp
  rw [← hk] at h1 h2
  subst hs; clear hk
  interval_cases k <;> decide

/-- The scale the kernel builds from its bits is 2^(−31−s). -/
theorem scale_val (s : BitVec 32) (h1 : 3 ≤ s.toNat) (h2 : s.toNat ≤ 12) :
    Ideal.ofBits .f32 (IntOp.shli .vector (IntOp.subi 96#32 s) 23#32) = ((1 / (2147483648 * 2 ^ s.toNat) : ℝ) : EReal) := by
  obtain ⟨k, hk⟩ : ∃ k, k = s.toNat := ⟨_, rfl⟩
  have hs : s = BitVec.ofNat 32 k := by rw [hk]; simp
  rw [← hk] at h1 h2 ⊢
  subst hs; clear hk
  rw [ofBits_pos _ (96 - k) 0 (by interval_cases k <;> decide) (by interval_cases k <;> decide) (by interval_cases k <;> decide) (by omega) (by omega)]
  interval_cases k <;> norm_num [-EReal.coe_mul, zpow_neg]
/-- Its inverse is 2^(31+s). -/
theorem inv_val (s : BitVec 32) (h1 : 3 ≤ s.toNat) (h2 : s.toNat ≤ 12) :
    Ideal.ofBits .f32 (IntOp.shli .vector (IntOp.addi 158#32 s) 23#32) = ((2147483648 * 2 ^ s.toNat : ℝ) : EReal) := by
  obtain ⟨k, hk⟩ : ∃ k, k = s.toNat := ⟨_, rfl⟩
  have hs : s = BitVec.ofNat 32 k := by rw [hk]; simp
  rw [← hk] at h1 h2 ⊢
  subst hs; clear hk
  rw [ofBits_pos _ (158 + k) 0 (by interval_cases k <;> decide) (by interval_cases k <;> decide) (by interval_cases k <;> decide) (by omega) (by omega)]
  interval_cases k <;> norm_num [-EReal.coe_mul, zpow_neg]

end Cert.Proof.Rq

end
-- ==== Proof.FastPath.lean ====
module

public import proofs.«01_k».proof.Proof.FastArith

@[expose] public section

set_option maxRecDepth 8192

/-! The kernel's fast requantization of one accumulator word is the reference's, in the ranges its flag tests. -/

namespace Cert.Proof.Rq

open Idealize.ShloMosaic

/-! ## The kernel's words -/

/-- The offset the kernel adds to a column's accumulators. -/
noncomputable def hW (zc m s : BitVec 32) : BitVec 32 :=
  FloatOps.fptosi 32 (F := Ideal) (φ := .f32) (Ideal.liftRound Ideal.roundHalfEven
    ((((zc.toInt : ℝ) : EReal) - Ideal.ofBits .f32 0x42FF0000#32) *
        Ideal.div (Ideal.ofBits .f32 (IntOp.shli .vector (IntOp.addi 158#32 (clipS s)) 23#32)) (FloatOps.sitofp (F := Ideal) .f32 m) +
      Ideal.ofBits .f32 0x3F000000#32))
/-- The column's constant. -/
noncomputable def c0W (zc m s : BitVec 32) : BitVec 32 :=
  IntOp.subi (IntOp.shli .vector (IntOp.addi (IntOp.shli .vector (Scalar.subi (Scalar.muli 2#32 zc) 255#32) (clipS s)) 1#32) 30#32) (IntOp.muli (hW zc m s) m)
/-- The column's scale 2^(−31−s). -/
noncomputable def scW (s : BitVec 32) : EReal := Ideal.ofBits .f32 (IntOp.shli .vector (IntOp.subi 96#32 (clipS s)) 23#32)
/-- The column's multiplier, scaled. -/
noncomputable def f0W (m s : BitVec 32) : EReal := (FloatOps.sitofp (F := Ideal) .f32 m : EReal) * scW s
/-- The column's offset of the rounded value. -/
noncomputable def f2W (zc m s : BitVec 32) : EReal :=
  (FloatOps.sitofp (F := Ideal) .f32 (c0W zc m s) : EReal) * scW s - Ideal.ofBits .f32 0x4E800000#32 * scW s - Ideal.ofBits .f32 0x3F000000#32
/-- The 32-bit remainder the kernel subtracts. -/
def lowW (ah h m c0 c1 : BitVec 32) : BitVec 32 := IntOp.addi (IntOp.muli ah m) (Scalar.select (IntOp.cmpi .slt ah h) c0 c1)
/-- The kernel's byte on its fast path. -/
noncomputable def fastB (ah low : BitVec 32) (f0 f1 f2 : EReal) : BitVec 8 :=
  BitVec.setWidth 8 (IntOp.addi (FloatOps.fptosi 32 (F := Ideal) (φ := .f32) (Ideal.liftRound Ideal.roundHalfEven
    (min (Ideal.ofBits .f32 0x42FF0000#32) (max (Ideal.ofBits .f32 0xC2FF0000#32)
      ((FloatOps.sitofp (F := Ideal) .f32 ah : EReal) * f0 - (FloatOps.sitofp (F := Ideal) .f32 low : EReal) * f1)) + f2))) 128#32)

theorem sitofp_coe (x : BitVec 32) : (FloatOps.sitofp (F := Ideal) .f32 x : EReal) = ((x.toInt : ℝ) : EReal) := rfl

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-! ## Words as integers modulo 2³² -/

theorem toInt_ofInt (z : ℤ) (h1 : -2147483648 ≤ z) (h2 : z < 2147483648) : (BitVec.ofInt 32 z).toInt = z := by
  rw [BitVec.toInt_ofInt]; apply Int.bmod_eq_of_le <;> omega

/-- A word's integer and any integer it was made from differ by a multiple of 2³². -/
theorem toInt_mod (z : ℤ) : ∃ j : ℤ, (BitVec.ofInt 32 z).toInt = z + 4294967296 * j := by
  rw [BitVec.toInt_ofInt]
  exact ⟨-(Int.bdiv z 4294967296), by have := Int.bdiv_add_bmod z 4294967296; push_cast at *; linarith⟩

theorem addi_ofInt (x y : ℤ) : IntOp.addi (BitVec.ofInt 32 x) (BitVec.ofInt 32 y) = BitVec.ofInt 32 (x + y) := (BitVec.ofInt_add ..).symm
theorem muli_ofInt (x y : ℤ) : IntOp.muli (BitVec.ofInt 32 x) (BitVec.ofInt 32 y) = BitVec.ofInt 32 (x * y) := (BitVec.ofInt_mul ..).symm
theorem subi_ofInt (x y : ℤ) : IntOp.subi (BitVec.ofInt 32 x) (BitVec.ofInt 32 y) = BitVec.ofInt 32 (x - y) := by
  simp only [IntOp.subi, sub_eq_add_neg, BitVec.ofInt_add, BitVec.ofInt_neg, BitVec.sub_eq_add_neg]
theorem shli_ofInt (x : ℤ) (s : BitVec 32) (h : s.toNat < 32) :
    IntOp.shli .vector (BitVec.ofInt 32 x) s = BitVec.ofInt 32 (x * 2 ^ s.toNat) := by
  simp only [IntOp.shli, h, if_true]
  rw [BitVec.shiftLeft_eq', BitVec.shiftLeft_eq_mul_twoPow, BitVec.ofInt_mul]
  congr 1
  apply BitVec.eq_of_toNat_eq
  have hp : 2 ^ s.toNat < 2 ^ 32 := Nat.pow_lt_pow_right (by norm_num) h
  rw [BitVec.toNat_twoPow, show ((2 : ℤ) ^ s.toNat) = ((2 ^ s.toNat : ℕ) : ℤ) by norm_cast, BitVec.ofInt_natCast, BitVec.toNat_ofNat]

/-- Flipping the top bit adds 2³¹ modulo 2³². -/
theorem xori_ofInt (x : ℤ) : IntOp.xori (BitVec.ofInt 32 x) 2147483648#32 = BitVec.ofInt 32 (x + 2147483648) := by
  rw [BitVec.ofInt_add]
  apply BitVec.eq_of_toNat_eq
  rw [IntOp.xori, toNat_flip, BitVec.toNat_add, show (BitVec.ofInt 32 2147483648).toNat = 2147483648 from rfl]
  have := (BitVec.ofInt 32 x).isLt
  split <;> omega

/-- A power of two as an integer is the natural one. -/
theorem pow_cast (k : ℕ) : ((2 : ℤ) ^ k) = ((2 ^ k : ℕ) : ℤ) := by norm_cast

/-- The real arithmetic of the fast path: with the remainder `L` and the constant `C` as it computes them, its rounded value is the reference's clamped integer. -/
theorem fast_real (A M Z H C L j : ℤ) (k : ℕ) (h1 : 3 ≤ k) (h2 : k ≤ 12) (hm : 1073741824 ≤ M)
    (hC : C = (2 * Z - 255) * 2 ^ k * 1073741824 + 1073741824 - H * M) (rC1 : -1073741824 ≤ C) (rC2 : C ≤ 1073741824)
    (hj : L = (A + H) * M + C + (if A < 0 then 0 else 2147483648) + 4294967296 * j) (ll : -2147483648 ≤ L) (lu : L < 2147483648)
    (sc : ℝ) (hsc : sc = 1 / (2147483648 * 2 ^ k)) :
    Ideal.roundHalfEven (min (255 / 2) (max (-255 / 2) (((A + H : ℤ) : ℝ) * ((M : ℝ) * sc) - (L : ℝ) * sc)) + ((C : ℝ) * sc - 1073741824 * sc - 1 / 2)) + 128
      = max 0 (min 255 (divZ (quotZ A M) (2 ^ k) + Z)) := by
  obtain ⟨v, hv⟩ : ∃ v : ℝ, v = ((A + H : ℤ) : ℝ) * ((M : ℝ) * sc) - (L : ℝ) * sc := ⟨_, rfl⟩
  obtain ⟨off, hoff⟩ : ∃ off : ℝ, off = (C : ℝ) * sc - 1073741824 * sc - 1 / 2 := ⟨_, rfl⟩
  rw [← hv, ← hoff]
  have hP0 : (0 : ℝ) < 2147483648 * 2 ^ k := by positivity
  have hsc0 : sc * (2147483648 * 2 ^ k) = 1 := by rw [hsc]; field_simp
  have hscp : 0 < sc := by rw [hsc]; positivity
  have hC1 : (C : ℝ) ≤ 1073741824 := by exact_mod_cast rC2
  have hC2 : (-1073741824 : ℝ) ≤ C := by exact_mod_cast rC1
  have hP8 : (8 : ℝ) ≤ 2 ^ k := by
    have : (2 : ℝ) ^ 3 ≤ 2 ^ k := pow_le_pow_right₀ (by norm_num) h1
    linarith
  have hscu : sc * 2147483648 ≤ 1 / 8 := by
    have : sc * 2147483648 = 1 / 2 ^ k := by rw [hsc]; field_simp
    rw [this]; exact one_div_le_one_div_of_le (by norm_num) hP8
  have hoff' : off = (C - 1073741824 : ℝ) * sc - 1 / 2 := by rw [hoff]; ring
  have o1 : (C - 1073741824 : ℝ) * sc ≤ 0 * sc := mul_le_mul_of_nonneg_right (by linarith) hscp.le
  have o2 : (-2147483648 : ℝ) * sc ≤ (C - 1073741824 : ℝ) * sc := mul_le_mul_of_nonneg_right (by linarith) hscp.le
  have ho2 : off ≤ -1 / 2 := by rw [hoff']; linarith
  have ho1 : -5 / 8 ≤ off := by rw [hoff']; linarith
  have hq := rhe_spec (v + off)
  obtain ⟨r, hr⟩ : ∃ r, r = Ideal.roundHalfEven (v + off) := ⟨_, rfl⟩
  rw [← hr] at hq
  have hC' : (C : ℝ) = (2 * Z - 255) * 2 ^ k * 1073741824 + 1073741824 - H * M := by rw [hC]; push_cast; ring
  have hvo : (v + off) * (2147483648 * 2 ^ k)
      = (A * M + (2 * Z - 255) * 2 ^ k * 1073741824 - L : ℝ) - 1073741824 * 2 ^ k := by
    have : v + off = ((A + H) * M - L + C - 1073741824 : ℝ) * sc - 1 / 2 := by rw [hv, hoff]; push_cast; ring
    rw [this, sub_mul, mul_assoc, hsc0, hC']; ring
  have c1 : ((2147483648 * 2 ^ k * r : ℤ) : ℝ) ≤ ((A * M + (2 * Z - 255) * 2 ^ k * 1073741824 - L : ℤ) : ℝ) := by
    push_cast
    have := mul_le_mul_of_nonneg_right hq.1 hP0.le
    rw [hvo] at this; linarith
  have c2 : ((A * M + (2 * Z - 255) * 2 ^ k * 1073741824 - L : ℤ) : ℝ) ≤ ((2147483648 * 2 ^ k * (r + 1) : ℤ) : ℝ) := by
    push_cast
    have := mul_le_mul_of_nonneg_right hq.2 hP0.le
    rw [hvo] at this; linarith
  have c1 := Int.cast_le.1 c1
  have c2 := Int.cast_le.1 c2
  have hp := pow_cases k h1 h2
  have hPz : ((2 : ℤ) ^ k) = ((2 ^ k : ℕ) : ℤ) := pow_cast k
  have hcore := core (A * M) Z (2 ^ k) L r j (quotZ A M) (A < 0)
    (by rw [hPz]; rcases hp with h | h | h | h | h | h | h | h | h | h <;> rw [h] <;> simp)
    (fun h => mul_nonpos_of_nonpos_of_nonneg h.le (by omega)) (fun h => mul_nonneg (not_lt.1 h) (by omega)) (by rw [quotZ]; split <;> ring_nf)
    (by rw [hj, hC]; ring) (by omega) (by omega) c1 c2
  exact clip_round v off _ ho1 ho2 (hr ▸ hcore)

/-! ## The column's constants -/

section
variable (zc m s : BitVec 32) (h1 : 3 ≤ s.toNat) (h2 : s.toNat ≤ 12) (hm : 1073741824 ≤ m.toInt) (h3 : 0 ≤ zc.toInt) (h4 : zc.toInt ≤ 255)
include h1 h2 hm h3 h4

/-- The offset's word: an integer `H` whose product with the multiplier is the scaled zero point, up to the multiplier. -/
theorem hW_spec : ∃ H : ℤ, hW zc m s = BitVec.ofInt 32 H ∧ -1044482 ≤ H ∧ H ≤ 1044482 ∧
    (2 * zc.toInt - 255) * 2 ^ s.toNat * 1073741824 ≤ H * m.toInt ∧ H * m.toInt ≤ (2 * zc.toInt - 255) * 2 ^ s.toNat * 1073741824 + m.toInt := by
  have hM : (0 : ℝ) < m.toInt := by exact_mod_cast (by omega : 0 < m.toInt)
  obtain ⟨x, hx⟩ : ∃ x : ℝ, x = ((zc.toInt : ℝ) - 255 / 2) * ((2147483648 * 2 ^ s.toNat) * (m.toInt : ℝ)⁻¹) := ⟨_, rfl⟩
  have hxm : x * m.toInt = (2 * zc.toInt - 255) * 2 ^ s.toNat * 1073741824 := by rw [hx]; field_simp; ring
  have hs := rhe_spec (x + 1 / 2)
  refine ⟨Ideal.roundHalfEven (x + 1 / 2), ?_⟩
  have b1 : (((2 * zc.toInt - 255) * 2 ^ s.toNat * 1073741824 : ℤ) : ℝ) ≤ ((Ideal.roundHalfEven (x + 1 / 2) * m.toInt : ℤ) : ℝ) := by
    push_cast; rw [← hxm]; exact mul_le_mul_of_nonneg_right (by linarith [hs.2]) hM.le
  have b2 : ((Ideal.roundHalfEven (x + 1 / 2) * m.toInt : ℤ) : ℝ) ≤ (((2 * zc.toInt - 255) * 2 ^ s.toNat * 1073741824 + m.toInt : ℤ) : ℝ) := by
    push_cast; rw [← hxm, ← add_one_mul]; exact mul_le_mul_of_nonneg_right (by linarith [hs.1]) hM.le
  have b1 := Int.cast_le.1 b1
  have b2 := Int.cast_le.1 b2
  have hp := pow_cases s.toNat h1 h2
  have hPz : ((2 : ℤ) ^ s.toNat) = ((2 ^ s.toNat : ℕ) : ℤ) := by norm_cast
  have hw : hW zc m s = FloatOps.fptosi 32 (F := Ideal) (φ := .f32) ((((Ideal.roundHalfEven (x + 1 / 2) : ℤ) : ℝ)) : EReal) := by
    rw [hW, clipS_eq s h1 h2, c_pos, inv_val s h1 h2, c_half, sitofp_coe, Ideal.div, if_neg (by exact_mod_cast hM.ne')]
    rw [← EReal.coe_inv, ← EReal.coe_sub, ← EReal.coe_mul, ← EReal.coe_mul, ← EReal.coe_add, ← hx]
    rfl
  generalize Ideal.roundHalfEven (x + 1 / 2) = H at *
  have u1 : H ≤ 1044481 := by
    refine le_of_mul_le_mul_right ?_ (by omega : 0 < m.toInt)
    rw [hPz] at b2
    rcases hp with h | h | h | h | h | h | h | h | h | h <;> rw [h] at b2 <;> push_cast at b2 <;> omega
  have u2 : -1044481 ≤ H := by
    refine le_of_mul_le_mul_right ?_ (by omega : 0 < m.toInt)
    rw [hPz] at b1
    rcases hp with h | h | h | h | h | h | h | h | h | h <;> rw [h] at b1 <;> push_cast at b1 <;> omega
  exact ⟨by rw [hw, fptosi_int _ (by omega) (by omega)], by omega, by omega, b1, b2⟩

set_option maxHeartbeats 1000000 in
/-- In the ranges its flag tests the fast path's byte is the reference's. -/
theorem fast_eq (acc : BitVec 32) (hb1 : -2000000000 ≤ acc.toInt) (hb2 : acc.toInt ≤ 2000000000) :
    fastB (IntOp.addi acc (hW zc m s)) (lowW (IntOp.addi acc (hW zc m s)) (hW zc m s) m (c0W zc m s) (IntOp.xori (c0W zc m s) 2147483648#32))
      (f0W m s) (scW s) (f2W zc m s) = reqR acc m s zc := by
  obtain ⟨H, hH, l1, l2, b1, b2⟩ := hW_spec zc m s h1 h2 hm h3 h4
  have hM2 : m.toInt < 2147483648 := by have := BitVec.toInt_lt (x := m); norm_num at this; exact this
  obtain ⟨A, hA⟩ : ∃ A, A = acc.toInt := ⟨_, rfl⟩
  obtain ⟨M, hM⟩ : ∃ M, M = m.toInt := ⟨_, rfl⟩
  obtain ⟨Z, hZ⟩ : ∃ Z, Z = zc.toInt := ⟨_, rfl⟩
  have wA : acc = BitVec.ofInt 32 A := by rw [hA, BitVec.ofInt_toInt]
  have wM : m = BitVec.ofInt 32 M := by rw [hM, BitVec.ofInt_toInt]
  have wZ : zc = BitVec.ofInt 32 Z := by rw [hZ, BitVec.ofInt_toInt]
  obtain ⟨C, hC⟩ : ∃ C, C = (2 * Z - 255) * 2 ^ s.toNat * 1073741824 + 1073741824 - H * M := ⟨_, rfl⟩
  have wC : c0W zc m s = BitVec.ofInt 32 C := by
    rw [c0W, clipS_eq s h1 h2, hH, wM]
    show IntOp.subi (IntOp.shli .vector (IntOp.addi (IntOp.shli .vector (IntOp.subi (IntOp.muli (BitVec.ofInt 32 2) zc) (BitVec.ofInt 32 255)) s)
      (BitVec.ofInt 32 1)) 30#32) _ = _
    rw [wZ, muli_ofInt, subi_ofInt, shli_ofInt _ s (by omega), addi_ofInt, shli_ofInt _ 30#32 (by decide), muli_ofInt, subi_ofInt, hC]
    congr 1
    rw [show (30#32 : BitVec 32).toNat = 30 from rfl]; ring
  rw [← hM, ← hZ] at b1 b2
  rw [← hM] at hm hM2
  rw [← hA] at hb1 hb2
  have rC : C.natAbs ≤ 1073741824 := by omega
  have tC : (c0W zc m s).toInt = C := by rw [wC, toInt_ofInt] <;> omega
  have wAh : IntOp.addi acc (hW zc m s) = BitVec.ofInt 32 (A + H) := by rw [wA, hH, addi_ofInt]
  have tAh : (IntOp.addi acc (hW zc m s)).toInt = A + H := by rw [wAh, toInt_ofInt] <;> omega
  have tH : (hW zc m s).toInt = H := by rw [hH, toInt_ofInt] <;> omega
  have wL : ∃ j : ℤ, (lowW (IntOp.addi acc (hW zc m s)) (hW zc m s) m (c0W zc m s) (IntOp.xori (c0W zc m s) 2147483648#32)).toInt
      = (A + H) * M + C + (if A < 0 then 0 else 2147483648) + 4294967296 * j := by
    have hsel : Scalar.select (IntOp.cmpi .slt (IntOp.addi acc (hW zc m s)) (hW zc m s)) (c0W zc m s) (IntOp.xori (c0W zc m s) 2147483648#32)
        = BitVec.ofInt 32 (C + if A < 0 then 0 else 2147483648) := by
      simp only [IntOp.cmpi, BitVec.slt_eq_decide, tAh, tH, Scalar.select, wC, xori_ofInt]
      by_cases h : A < 0
      · simp [h]
      · simp [h]
    rw [lowW, hsel, wAh]
    nth_rewrite 1 [wM]
    rw [muli_ofInt, addi_ofInt]
    obtain ⟨j, hj⟩ := toInt_mod ((A + H) * M + (C + if A < 0 then 0 else 2147483648))
    exact ⟨j, by rw [hj]; ring⟩
  obtain ⟨j, hj⟩ := wL
  generalize lowW (IntOp.addi acc (hW zc m s)) (hW zc m s) m (c0W zc m s) (IntOp.xori (c0W zc m s) 2147483648#32) = low at *
  have ll := BitVec.le_toInt (x := low)
  have lu := BitVec.toInt_lt (x := low)
  norm_num at ll lu
  obtain ⟨L, hL⟩ : ∃ L, L = low.toInt := ⟨_, rfl⟩
  rw [← hL] at hj ll lu
  -- the real arithmetic
  obtain ⟨sc, hsc⟩ : ∃ sc : ℝ, sc = 1 / (2147483648 * 2 ^ s.toNat) := ⟨_, rfl⟩
  obtain ⟨v, hv⟩ : ∃ v : ℝ, v = ((A + H : ℤ) : ℝ) * ((M : ℝ) * sc) - (L : ℝ) * sc := ⟨_, rfl⟩
  obtain ⟨off, hoff⟩ : ∃ off : ℝ, off = (C : ℝ) * sc - 1073741824 * sc - 1 / 2 := ⟨_, rfl⟩
  have e : fastB (IntOp.addi acc (hW zc m s)) low (f0W m s) (scW s) (f2W zc m s)
      = BitVec.setWidth 8 (IntOp.addi (FloatOps.fptosi 32 (F := Ideal) (φ := .f32)
          ((((Ideal.roundHalfEven (min (255 / 2) (max (-255 / 2) v) + off) : ℤ) : ℝ)) : EReal)) 128#32) := by
    rw [fastB, f0W, f2W, scW, clipS_eq s h1 h2, scale_val s h1 h2, c_pos, c_neg, c_30, c_half, sitofp_coe, sitofp_coe, sitofp_coe, sitofp_coe,
      tAh, tC, ← hM, ← hL, ← hsc]
    rw [← EReal.coe_mul, ← EReal.coe_mul, ← EReal.coe_mul, ← EReal.coe_sub, ← EReal.coe_mul, ← EReal.coe_mul, ← EReal.coe_sub, ← EReal.coe_sub, ← hv, ← hoff,
      ← coe_max, ← coe_min, ← EReal.coe_add]
    rfl
  have hclip := fast_real A M Z H C L j s.toNat h1 h2 hm hC (by omega) (by omega) (by rw [hj]) ll lu sc hsc
  rw [← hv, ← hoff] at hclip
  rw [e, reqR_eq acc m s zc (by omega) (by omega) h1 h2 h3 h4, ← hA, ← hM, ← hZ, byteZ, ← hclip]
  have rr : ∀ z : ℤ, z + 128 = max 0 (min 255 (divZ (quotZ A M) (2 ^ s.toNat) + Z)) → -128 ≤ z ∧ z ≤ 127 := fun z hz => by
    have a1 : max 0 (min 255 (divZ (quotZ A M) (2 ^ s.toNat) + Z)) ≤ 255 := by omega
    have a2 : 0 ≤ max 0 (min 255 (divZ (quotZ A M) (2 ^ s.toNat) + Z)) := by omega
    omega
  obtain ⟨r1, r2⟩ := rr _ hclip
  rw [fptosi_int _ (by omega) (by omega)]
  show BitVec.setWidth 8 (IntOp.addi _ (BitVec.ofInt 32 128)) = _
  rw [addi_ofInt, setWidth_eq, toInt_ofInt _ (by omega) (by omega)]

end

end Cert.Proof.Rq

end
-- ==== Proof.Acc.lean ====
module

public import proofs.«01_k».proof.Proof.FastPath

/-! The accumulator of one row and one column: the integer it denotes, the word the reference computes for it, and the
word the kernel computes for it from the three chunks of the inner axis. -/

@[expose] public section
namespace Cert.Proof.Rq
open Idealize.ShloMosaic
set_option maxRecDepth 8192

/-- A byte as an integer from 0 to 255. -/
def bz (x : BitVec 8) : ℤ := (x.toNat : ℤ)

theorem bz_nonneg (x : BitVec 8) : 0 ≤ bz x := Int.natCast_nonneg _
theorem bz_le (x : BitVec 8) : bz x ≤ 255 := by have := x.isLt; unfold bz; omega

/-- A byte widened to a word is the word of its integer. -/
theorem setWidth_ofInt (x : BitVec 8) : BitVec.setWidth 32 x = BitVec.ofInt 32 (bz x) := by
  apply BitVec.eq_of_toNat_eq
  have := x.isLt
  unfold bz
  rw [BitVec.ofInt_natCast, BitVec.toNat_setWidth, BitVec.toNat_ofNat]

/-- A word is the word of its integer. -/
theorem word_ofInt (x : BitVec 32) : x = BitVec.ofInt 32 x.toInt := (BitVec.ofInt_toInt).symm

/-- A fold of word additions from zero, over words of integers, is the word of the integers' sum. -/
theorem fold_ofInt {n : ℕ} (f : Fin n → BitVec 32) (g : Fin n → ℤ) (h : ∀ x, f x = BitVec.ofInt 32 (g x)) :
    Finset.fold IntOp.addi 0#32 f Finset.univ = BitVec.ofInt 32 (∑ x, g x) := by
  classical
  refine Finset.induction_on (motive := fun s => Finset.fold IntOp.addi 0#32 f s = BitVec.ofInt 32 (∑ x ∈ s, g x)) Finset.univ ?_ ?_
  · rfl
  · intro a s ha ih
    rw [Finset.fold_insert ha, Finset.sum_insert ha, ih, h, addi_ofInt]

/-- The accumulator as an integer: the dot product of the two rows less their zero points, plus the bias. -/
def accZ (X W : Fin 2560 → BitVec 8) (za zb bias : BitVec 32) : ℤ :=
  ∑ k, (bz (X k) - za.toInt) * (bz (W k) - zb.toInt) + bias.toInt

/-- The dot product with both zero points written out. -/
theorem sum_centered (x w : Fin 2560 → ℤ) (a b : ℤ) :
    ∑ k, (x k - a) * (w k - b) = ∑ k, x k * w k - b * ∑ k, x k - a * ∑ k, w k + 2560 * a * b := by
  have : ∀ k, (x k - a) * (w k - b) = x k * w k - b * x k - a * w k + a * b := fun k => by ring
  simp only [this, Finset.sum_add_distrib, Finset.sum_sub_distrib, ← Finset.mul_sum, Finset.sum_const, Finset.card_univ, Fintype.card_fin]
  rw [nsmul_eq_mul]; push_cast; ring

/-- The reference's accumulator word: the word of the accumulator. -/
theorem accR_eq (X W : Fin 2560 → BitVec 8) (za zb bias : BitVec 32) :
    IntOp.addi (IntOp.subi (Finset.fold IntOp.addi 0#32 (fun k => IntOp.muli (BitVec.setWidth 32 (X k)) (BitVec.setWidth 32 (W k))) Finset.univ)
        (IntOp.muli zb (Finset.fold IntOp.addi 0#32 (fun k => BitVec.setWidth 32 (X k)) Finset.univ)))
      (IntOp.addi (IntOp.subi (IntOp.muli (IntOp.muli 2560#32 za) zb)
        (IntOp.muli za (Finset.fold IntOp.addi 0#32 (fun k => BitVec.setWidth 32 (W k)) Finset.univ))) bias)
      = BitVec.ofInt 32 (accZ X W za zb bias) := by
  rw [fold_ofInt _ (fun k => bz (X k) * bz (W k)) (fun k => by rw [setWidth_ofInt, setWidth_ofInt, muli_ofInt]),
    fold_ofInt _ (fun k => bz (X k)) (fun k => setWidth_ofInt _), fold_ofInt _ (fun k => bz (W k)) (fun k => setWidth_ofInt _)]
  rw [accZ, sum_centered]
  generalize ∑ k, bz (X k) * bz (W k) = p
  generalize ∑ k, bz (X k) = x
  generalize ∑ k, bz (W k) = w
  obtain ⟨a, ha⟩ : ∃ a, za.toInt = a := ⟨_, rfl⟩
  obtain ⟨b, hb⟩ : ∃ b, zb.toInt = b := ⟨_, rfl⟩
  obtain ⟨c, hc⟩ : ∃ c, bias.toInt = c := ⟨_, rfl⟩
  rw [ha, hb, hc, show za = BitVec.ofInt 32 a by rw [← ha]; exact word_ofInt _, show zb = BitVec.ofInt 32 b by rw [← hb]; exact word_ofInt _,
    show bias = BitVec.ofInt 32 c by rw [← hc]; exact word_ofInt _, show (2560#32 : BitVec 32) = BitVec.ofInt 32 2560 from rfl]
  rw [muli_ofInt, subi_ofInt, muli_ofInt, muli_ofInt, muli_ofInt, subi_ofInt, addi_ofInt, addi_ofInt]
  exact congrArg _ (by ring)

/-- The kernel's exact dot product of one chunk, with both bytes centred at 128. -/
def chunkZ {n : ℕ} (X W : Fin n → BitVec 8) : ℤ := ∑ k, (bz (X k) - 128) * (bz (W k) - 128)

theorem chunkZ_bound {n : ℕ} (X W : Fin n → BitVec 8) : |chunkZ X W| ≤ n * 16384 := by
  unfold chunkZ
  refine (Finset.abs_sum_le_sum_abs _ _).trans ((Finset.sum_le_card_nsmul _ _ 16384 fun k _ => ?_).trans (by simp))
  rw [abs_mul]
  have h1 : |bz (X k) - 128| ≤ 128 := abs_le.mpr ⟨by have := bz_nonneg (X k); omega, by have := bz_le (X k); omega⟩
  have h2 : |bz (W k) - 128| ≤ 128 := abs_le.mpr ⟨by have := bz_nonneg (W k); omega, by have := bz_le (W k); omega⟩
  calc _ ≤ (128 : ℤ) * 128 := mul_le_mul h1 h2 (abs_nonneg _) (by norm_num)
    _ = _ := by norm_num

/-- A sum of integers, each read as an extended real, is the integers' sum. -/
theorem sum_coe {n : ℕ} (f : Fin n → ℤ) : ∑ k, (((f k : ℤ) : ℝ) : EReal) = (((∑ k, f k : ℤ) : ℝ) : EReal) := by
  classical
  refine Finset.induction_on (motive := fun s => ∑ k ∈ s, (((f k : ℤ) : ℝ) : EReal) = (((∑ k ∈ s, f k : ℤ) : ℝ) : EReal)) Finset.univ ?_ ?_
  · simp
  · intro a s ha ih
    rw [Finset.sum_insert ha, Finset.sum_insert ha, ih, ← EReal.coe_add, Int.cast_add]

/-- The kernel's product of one chunk, rounded to a word, is the word of the chunk's exact dot product. -/
theorem chunk_word {n : ℕ} (hn : n ≤ 1024) (X W : Fin n → BitVec 8) (f g : Fin n → EReal)
    (hf : ∀ k, f k = (((bz (X k) - 128 : ℤ) : ℝ) : EReal)) (hg : ∀ k, g k = (((bz (W k) - 128 : ℤ) : ℝ) : EReal)) :
    FloatOps.fptosi 32 (F := Ideal) (φ := .f32) (Ideal.liftRound Ideal.roundHalfEven (∑ k, f k * g k)) = BitVec.ofInt 32 (chunkZ X W) := by
  have h : ∑ k, f k * g k = ((chunkZ X W : ℝ) : EReal) := by
    simp only [hf, hg, ← EReal.coe_mul, ← Int.cast_mul]
    exact sum_coe _
  have hb := abs_le.mp (chunkZ_bound X W)
  have : (n : ℤ) * 16384 ≤ 1024 * 16384 := by exact_mod_cast Nat.mul_le_mul_right _ hn
  rw [h, show Ideal.liftRound Ideal.roundHalfEven (((chunkZ X W : ℝ)) : EReal) = ((((Ideal.roundHalfEven (chunkZ X W : ℝ)) : ℤ) : ℝ) : EReal) from rfl,
    rhe_int, fptosi_int _ (by omega) (by omega)]

/-- A sum along the inner axis is the sum of its three chunks. -/
theorem sum_split (f : Fin 2560 → ℤ) :
    ∑ k, f k = (∑ x : Fin 1024, f ⟨x.val, by omega⟩ + ∑ x : Fin 1024, f ⟨1024 + x.val, by omega⟩) + ∑ x : Fin 512, f ⟨2048 + x.val, by omega⟩ := by
  have h1 : ∑ k : Fin (2048 + 512), f k = _ := Fin.sum_univ_add (a := 2048) (b := 512) f
  have h2 := Fin.sum_univ_add (a := 1024) (b := 1024) (fun i => f (Fin.castAdd 512 i))
  exact h1.trans (congrArg (· + _) h2)

/-- The exact dot product of a row and a column, both centred at 128. -/
def dotZ (X W : Fin 2560 → BitVec 8) : ℤ := ∑ k, (bz (X k) - 128) * (bz (W k) - 128)
/-- The sum of a row centred at 128. -/
def sumZ (X : Fin 2560 → BitVec 8) : ℤ := ∑ k, (bz (X k) - 128)

/-- The sum of a row's words less 128 is the word of the centred sum. -/
theorem fold_sumZ (X : Fin 2560 → BitVec 8) :
    Finset.fold IntOp.addi 0#32 (fun k => IntOp.subi (BitVec.setWidth 32 (X k)) 128#32) Finset.univ = BitVec.ofInt 32 (sumZ X) :=
  fold_ofInt _ _ fun k => by rw [setWidth_ofInt, show (128#32 : BitVec 32) = BitVec.ofInt 32 128 from rfl, subi_ofInt]

/-- The kernel's constant of a column. -/
def colW (W : Fin 2560 → BitVec 8) (za zb bias : BitVec 32) : BitVec 32 :=
  IntOp.addi (IntOp.subi (IntOp.muli (IntOp.muli 2560#32 (IntOp.subi za 128#32)) (IntOp.subi zb 128#32))
    (IntOp.muli (IntOp.subi za 128#32) (BitVec.ofInt 32 (sumZ W)))) bias

/-- A product with both factors centred at 128 instead of at their zero points, corrected. -/
theorem accZ_centered (X W : Fin 2560 → BitVec 8) (za zb bias : BitVec 32) :
    accZ X W za zb bias = dotZ X W - (zb.toInt - 128) * sumZ X - (za.toInt - 128) * sumZ W
      + 2560 * (za.toInt - 128) * (zb.toInt - 128) + bias.toInt := by
  rw [accZ, dotZ, sumZ, sumZ, ← sum_centered]
  congr 1
  exact Finset.sum_congr rfl fun k _ => by ring

/-- The kernel's accumulator word is the word of the accumulator. -/
theorem accK_eq (X W : Fin 2560 → BitVec 8) (za zb bias : BitVec 32) :
    IntOp.addi (IntOp.subi (BitVec.ofInt 32 (dotZ X W)) (IntOp.muli (BitVec.ofInt 32 (sumZ X)) (IntOp.subi zb 128#32))) (colW W za zb bias)
      = BitVec.ofInt 32 (accZ X W za zb bias) := by
  rw [accZ_centered, colW]
  generalize dotZ X W = p
  generalize sumZ X = x
  generalize sumZ W = w
  obtain ⟨a, ha⟩ : ∃ a, za.toInt = a := ⟨_, rfl⟩
  obtain ⟨b, hb⟩ : ∃ b, zb.toInt = b := ⟨_, rfl⟩
  obtain ⟨c, hc⟩ : ∃ c, bias.toInt = c := ⟨_, rfl⟩
  rw [ha, hb, hc, show za = BitVec.ofInt 32 a by rw [← ha]; exact word_ofInt _, show zb = BitVec.ofInt 32 b by rw [← hb]; exact word_ofInt _,
    show bias = BitVec.ofInt 32 c by rw [← hc]; exact word_ofInt _, show (2560#32 : BitVec 32) = BitVec.ofInt 32 2560 from rfl,
    show (128#32 : BitVec 32) = BitVec.ofInt 32 128 from rfl]
  simp only [subi_ofInt, muli_ofInt, addi_ofInt]
  exact congrArg _ (by ring)

/-- The accumulator's range where both zero points are bytes and the bias is within 2³⁰. -/
theorem accZ_bound (X W : Fin 2560 → BitVec 8) (za zb bias : BitVec 32) (ha : 0 ≤ za.toInt) (ha' : za.toInt ≤ 255)
    (hb : 0 ≤ zb.toInt) (hb' : zb.toInt ≤ 255) (hc : -1073741824 ≤ bias.toInt) (hc' : bias.toInt ≤ 1073741824) :
    -2000000000 ≤ accZ X W za zb bias ∧ accZ X W za zb bias ≤ 2000000000 := by
  have h : |∑ k, (bz (X k) - za.toInt) * (bz (W k) - zb.toInt)| ≤ 2560 * 65025 := by
    refine (Finset.abs_sum_le_sum_abs _ _).trans ((Finset.sum_le_card_nsmul _ _ 65025 fun k _ => ?_).trans (by simp))
    rw [abs_mul]
    have h1 : |bz (X k) - za.toInt| ≤ 255 := abs_le.mpr ⟨by have := bz_nonneg (X k); omega, by have := bz_le (X k); omega⟩
    have h2 : |bz (W k) - zb.toInt| ≤ 255 := abs_le.mpr ⟨by have := bz_nonneg (W k); omega, by have := bz_le (W k); omega⟩
    calc _ ≤ (255 : ℤ) * 255 := mul_le_mul h1 h2 (abs_nonneg _) (by norm_num)
      _ = _ := by norm_num
  have h' := abs_le.mp h
  unfold accZ
  constructor <;> omega

end Cert.Proof.Rq
end
-- ==== Proof.Params.lean ====
module

public import proofs.«01_k».proof.Proof.Acc
public import proofs.«01_k».proof.Proof.KernelIdealRun
public import Idealize.ShloMosaic.Lib.Pointwise

/-! What the kernel's set-up stages store, at an index: the centred rows, the row sums and the parameter rows. -/

@[expose] public section
namespace Cert.Proof.KV
open Cert.KernelIdeal Cert.KernelIdeal.Gen Cert.Proof.KI Cert.Proof.Rq
open Idealize.ShloMosaic Idealize.ShloMosaic.TcCoe Idealize.ShloMosaic.Tactic
set_option maxRecDepth 8192
set_option maxHeartbeats 1000000

/-- A byte centred at 128, as the extended real it converts to. -/
theorem centred (x : BitVec 8) :
    (FloatOps.sitofp (F := Ideal) .bf16 (IntOp.subi (BitVec.setWidth 32 x) 128#32) : EReal) = (((bz x - 128 : ℤ) : ℝ) : EReal) := by
  have h1 := bz_nonneg x
  have h2 := bz_le x
  rw [setWidth_ofInt, show (128#32 : BitVec 32) = BitVec.ofInt 32 128 from rfl, subi_ofInt]
  show (((BitVec.ofInt 32 (bz x - 128)).toInt : ℝ) : EReal) = _
  rw [toInt_ofInt _ (by omega) (by omega)]

/-- The centred rows of `x`. -/
theorem pay2_at (X : Vec Ideal S512x2560 .i8) (r : Fin 512) (k : Fin 2560) :
    k0_pay2 (F := Ideal) X (ix2 r k) = (((bz (X (ix2 r k)) - 128 : ℤ) : ℝ) : EReal) := by
  simp only [k0_pay2, k0_pay1]; pointwise; exact centred _
/-- The centred rows of `w`. -/
theorem pay11_at (X : Vec Ideal S512x2560 .i8) (r : Fin 512) (k : Fin 2560) :
    k0_pay11 (F := Ideal) X (ix2 r k) = (((bz (X (ix2 r k)) - 128 : ℤ) : ℝ) : EReal) := by
  simp only [k0_pay11]; pointwise; exact centred _
/-- The sums of the centred rows of `x`, the same in every lane. -/
theorem pay3_at (X : Vec Ideal S512x2560 .i8) (r : Fin 512) (u : Fin 128) :
    k0_pay3 (F := Ideal) X (ix2 r u) = BitVec.ofInt 32 (sumZ fun k => X (ix2 r k)) := by
  simp only [k0_pay3, k0_pay1]; pointwise; exact fold_sumZ _

/-- Row `r` of an eight-row buffer. -/
theorem win_row {e : EltTy} (X : Vec Ideal S8x512 e) (r : Fin 8) (inb : ∀ a, (![r.val, 0] : Fin 2 → ℕ) a + S1x512.size a ≤ S8x512.size a) (l : Fin 512) :
    win X ![r.val, 0] S1x512.size inb (ix2 0 l) = X (ix2 r l) := by
  refine congrArg X ?_
  funext a; fin_cases a
  · exact Fin.ext (by show r.val + 1 * 0 = r.val; omega)
  · exact Fin.ext (by show 0 + 1 * l.val = l.val; omega)

section Rows
variable (X2 X3 : Vec Ideal S1 .i32) (X5 : Vec Ideal S512x2560 .i8) (X6 X7 X8 X9 : Vec Ideal S1x512 .i32)
  (old : Vec Ideal S8x512 .i32) (oldf : Vec Ideal S8x512 .f32) (l : Fin 512)

/-- A column's constant. -/
theorem parA_at : parA X2 X5 X6 X7 (ix2 0 l) = colW (fun k => X5 (ix2 l k)) (X2 z1) (X6 (ix2 0 l)) (X7 (ix2 0 l)) := by
  simp only [parA, k0_pay17, k0_pay16, k0_pay12, k0_pay13]
  pointwise
  rw [fold_sumZ (fun k => X5 (ix2 l k))]; rfl

theorem pay20_at (s : IVec S1x512 32) : k0_pay20 s (ix2 0 l) = clipS (s (ix2 0 l)) := by
  simp only [k0_pay20]; pointwise; rfl
theorem pay15_at : k0_pay15 (F := Ideal) X9 (ix2 0 l) = X9 (ix2 0 l) := by simp only [k0_pay15]; pointwise
theorem pay14_at : k0_pay14 (F := Ideal) X9 (ix2 0 l) = X9 (ix2 0 l) := by simp only [k0_pay14]; pointwise
theorem pay22_at (s : IVec S1x512 32) : k0_pay22 s (ix2 0 l) = IntOp.addi 158#32 (clipS (s (ix2 0 l))) := by
  simp only [k0_pay22]; pointwise; rw [pay20_at]
theorem pay24_at (zc : BitVec 32) (M E : IVec S1x512 32) (m s : BitVec 32) (hm : M (ix2 0 l) = m) (he : E (ix2 0 l) = IntOp.addi 158#32 (clipS s)) :
    k0_pay24 (F := Ideal) zc M E (ix2 0 l) = hW zc m s := by
  simp only [k0_pay24, k0_pay23]; pointwise; rw [hm, he]; rfl
theorem pay25_at (zc : BitVec 32) (M C E : IVec S1x512 32) (m s : BitVec 32) (hm : M (ix2 0 l) = m) (hc : C (ix2 0 l) = clipS s)
    (he : E (ix2 0 l) = IntOp.addi 158#32 (clipS s)) :
    k0_pay25 (F := Ideal) zc M C E (ix2 0 l) = c0W zc m s := by
  simp only [k0_pay25]; pointwise; rw [pay24_at l zc M E m s hm he, hm, hc]; rfl
theorem parC0_at : parC0 X3 X8 X9 (ix2 0 l) = c0W (X3 z1) (X8 (ix2 0 l)) (X9 (ix2 0 l)) :=
  pay25_at l _ _ _ _ _ _ (pay14_at X8 l) (by rw [pay20_at, pay15_at]) (by rw [pay22_at, pay15_at])
theorem pay21_at (s : IVec S1x512 32) : k0_pay21 (F := Ideal) s (ix2 0 l) = scW (s (ix2 0 l)) := by
  simp only [k0_pay21]; pointwise; rw [pay20_at]; rfl

/-- The integer parameter rows at a column. -/
theorem ip0 : ipOf X2 X3 X5 X6 X7 X8 X9 old (ix2 0 l) = IntOp.subi (X6 (ix2 0 l)) 128#32 := by
  unfold ipOf; repeat rw [put_row]
  simp only [k0_pay26, k0_pay16, k0_pay12]; pointwise
theorem ip1 : ipOf X2 X3 X5 X6 X7 X8 X9 old (ix2 1 l)
    = IntOp.addi (colW (fun k => X5 (ix2 l k)) (X2 z1) (X6 (ix2 0 l)) (X7 (ix2 0 l))) (hW (X3 z1) (X8 (ix2 0 l)) (X9 (ix2 0 l))) := by
  unfold ipOf; repeat rw [put_row]
  simp only [k0_pay27]; pointwise
  rw [parA_at, pay24_at l _ _ _ _ _ (pay14_at X8 l) (by rw [pay22_at, pay15_at])]
theorem ip2 : ipOf X2 X3 X5 X6 X7 X8 X9 old (ix2 2 l) = hW (X3 z1) (X8 (ix2 0 l)) (X9 (ix2 0 l)) := by
  unfold ipOf; repeat rw [put_row]
  simp only [k0_pay28]; pointwise
  rw [pay24_at l _ _ _ _ _ (pay14_at X8 l) (by rw [pay22_at, pay15_at])]
theorem ip3 : ipOf X2 X3 X5 X6 X7 X8 X9 old (ix2 3 l) = X8 (ix2 0 l) := by
  unfold ipOf; repeat rw [put_row]
  simp only [k0_pay29]; pointwise
  rw [pay14_at]
theorem ip4 : ipOf X2 X3 X5 X6 X7 X8 X9 old (ix2 4 l) = c0W (X3 z1) (X8 (ix2 0 l)) (X9 (ix2 0 l)) := by
  unfold ipOf; repeat rw [put_row]
  simp only [k0_pay30]; pointwise
  exact parC0_at X3 X8 X9 l
theorem ip5 : ipOf X2 X3 X5 X6 X7 X8 X9 old (ix2 5 l) = IntOp.xori (c0W (X3 z1) (X8 (ix2 0 l)) (X9 (ix2 0 l))) 2147483648#32 := by
  unfold ipOf; repeat rw [put_row]
  simp only [k0_pay4]; pointwise
  rw [parC0_at]
theorem ip6 : ipOf X2 X3 X5 X6 X7 X8 X9 old (ix2 6 l) = colW (fun k => X5 (ix2 l k)) (X2 z1) (X6 (ix2 0 l)) (X7 (ix2 0 l)) := by
  unfold ipOf; repeat rw [put_row]
  simp only [k0_pay5]; pointwise
  rw [parA_at]
/-- The float parameter rows at a column. -/
theorem fp0 : fpOf X3 X8 X9 oldf (ix2 0 l) = f0W (X8 (ix2 0 l)) (X9 (ix2 0 l)) := by
  unfold fpOf; repeat rw [put_row]
  simp only [k0_pay6, k0_pay23]; pointwise
  rw [pay14_at, pay21_at, pay15_at]; rfl
theorem fp1 : fpOf X3 X8 X9 oldf (ix2 1 l) = scW (X9 (ix2 0 l)) := by
  unfold fpOf; repeat rw [put_row]
  simp only [k0_pay7]; pointwise
  rw [pay21_at, pay15_at]
theorem fp2 : fpOf X3 X8 X9 oldf (ix2 2 l) = f2W (X3 z1) (X8 (ix2 0 l)) (X9 (ix2 0 l)) := by
  unfold fpOf; repeat rw [put_row]
  simp only [k0_pay8]; pointwise
  rw [pay21_at, pay15_at, parC0_at]; rfl

/-! ## The flag -/

theorem minsi_le (a b : BitVec 32) : (IntOp.minsi a b).toInt ≤ a.toInt ∧ (IntOp.minsi a b).toInt ≤ b.toInt := by
  unfold IntOp.minsi
  split_ifs with h <;> simp only [BitVec.slt, decide_eq_true_eq] at h <;> omega

/-- A fold of signed minima is at most each of the words folded. -/
theorem fold_minsi_le {ι : Type*} [Fintype ι] (b : BitVec 32) (f : ι → BitVec 32) (x : ι) :
    (Finset.fold IntOp.minsi b f Finset.univ).toInt ≤ (f x).toInt := by
  classical
  refine Finset.induction_on (motive := fun s => x ∈ s → (Finset.fold IntOp.minsi b f s).toInt ≤ (f x).toInt) Finset.univ ?_ ?_ (Finset.mem_univ x)
  · simp
  · intro a s ha ih hx
    rw [Finset.fold_insert ha]
    rcases Finset.mem_insert.mp hx with rfl | h
    · exact (minsi_le _ _).1
    · exact (minsi_le _ _).2.trans (ih h)

/-- The minimum over a row of bits is one only where every bit is one. -/
theorem all_bits (v : IVec S1x512 1)
    (h : extractAt ![0, 0, 0] (shapeCast S1x1x1 (multiReductionI .minsi [1, 2] S1 (shapeCast S1x1x512 (extui 32 v natLt_1_32) shapeCasts_S1x512_S1x1x512) 2147483647#32 reduces_S1x1x512_S1 rfl) shapeCasts_S1_S1x1x1) inpos_S1x1x1_p0_0_0 = 1#32) :
    v (ix2 0 l) = 1#1 := by
  revert h
  pointwise
  intro h
  have h1 := fold_minsi_le 2147483647#32 (fun x : Fin 1 × Fin 512 => BitVec.setWidth 32 (v (ix2 0 x.2))) (0, l)
  rw [h] at h1
  rcases BitVec.eq_zero_or_eq_one (v (ix2 0 l)) with h0 | h0
  · simp only [h0] at h1
    exact absurd h1 (by decide)
  · exact h0

theorem andi_one (a b : BitVec 1) : Scalar.andi a b = 1#1 ↔ a = 1#1 ∧ b = 1#1 := by
  revert a b; decide
theorem iandi_one (a b : BitVec 1) : IntOp.andi a b = 1#1 ↔ a = 1#1 ∧ b = 1#1 := by
  revert a b; decide
theorem ofBool_one (b : Bool) : BitVec.ofBool b = 1#1 ↔ b = true := by
  revert b; decide
theorem sge_iff (a b : BitVec 32) : IntOp.cmpi .sge a b = 1#1 ↔ b.toInt ≤ a.toInt := by
  simp only [IntOp.cmpi, ofBool_one, BitVec.sle, decide_eq_true_eq]
theorem sle_iff (a b : BitVec 32) : IntOp.cmpi .sle a b = 1#1 ↔ a.toInt ≤ b.toInt := by
  simp only [IntOp.cmpi, ofBool_one, BitVec.sle, decide_eq_true_eq]
theorem eq_iff (a b : BitVec 32) : Scalar.cmpi .eq a b = 1#1 ↔ a = b := by
  simp only [Scalar.cmpi, IntOp.cmpi, ofBool_one, beq_iff_eq]

/-- Where the flag is set, every column and both scalar zero points are in the fast path's range. -/
theorem flag_at (h : flagOf X2 X3 X6 X7 X8 X9 = 1#1) :
    (3 ≤ (X9 (ix2 0 l) : BitVec 32).toInt ∧ (X9 (ix2 0 l) : BitVec 32).toInt ≤ 12 ∧ 1073741824 ≤ (X8 (ix2 0 l) : BitVec 32).toInt
      ∧ 0 ≤ (X6 (ix2 0 l) : BitVec 32).toInt ∧ (X6 (ix2 0 l) : BitVec 32).toInt ≤ 255
      ∧ (X7 (ix2 0 l) : BitVec 32).toInt ≤ 1073741824 ∧ -1073741824 ≤ (X7 (ix2 0 l) : BitVec 32).toInt)
    ∧ 0 ≤ (X2 z1 : BitVec 32).toInt ∧ (X2 z1 : BitVec 32).toInt ≤ 255 ∧ 0 ≤ (X3 z1 : BitVec 32).toInt ∧ (X3 z1 : BitVec 32).toInt ≤ 255 := by
  simp only [flagOf, andi_one, eq_iff] at h
  obtain ⟨⟨⟨⟨h1, h2⟩, h3⟩, h4⟩, h5⟩ := h
  refine ⟨?_, (sge_iff _ _).mp h2, (sle_iff _ _).mp h3, (sge_iff _ _).mp h4, (sle_iff _ _).mp h5⟩
  have hb := all_bits l _ h1
  revert hb
  pointwise [k0_pay18, k0_pay12, k0_pay13, k0_pay14, k0_pay15]
  intro hb
  simp only [iandi_one, sge_iff, sle_iff] at hb
  obtain ⟨⟨⟨⟨⟨⟨a1, a2⟩, a3⟩, a4⟩, a5⟩, a6⟩, a7⟩ := hb
  exact ⟨a1, a2, a3, a4, a5, a6, a7⟩
end Rows
end Cert.Proof.KV
end
-- ==== Proof.SlowPath.lean ====
module

public import proofs.«01_k».proof.Proof.Requant
public import proofs.«01_k».proof.Proof.KernelIdealRun
public import Idealize.ShloMosaic.Lib.Pointwise

/-! The kernel's exact path at an index of its block: the accumulator there, requantized by `reqK`. -/

@[expose] public section
namespace Cert.Proof.KV
open Cert.KernelIdeal Cert.KernelIdeal.Gen Cert.Proof.KI Cert.Proof.Rq
open Idealize.ShloMosaic Idealize.ShloMosaic.TcCoe Idealize.ShloMosaic.Tactic
set_option maxRecDepth 8192
set_option maxHeartbeats 1000000

/-! ## The first 256 rows -/

section Lo
variable (A : IVec S256x512 32) (M S : IVec S1x512 32) (r : Fin 256) (l : Fin 512)

theorem p42 : k0_pay42 A (ix2 r l) = neg (A (ix2 r l)) := by simp only [k0_pay42]; pointwise; rfl
theorem p43 : k0_pay43 A (ix2 r l) = absK (A (ix2 r l)) := by simp only [k0_pay43]; pointwise; rw [p42]; rfl
theorem p44 : k0_pay44 M (ix2 0 l) = IntOp.shrui .vector (M (ix2 0 l)) 16#32 := by simp only [k0_pay44]; pointwise
theorem p45 : k0_pay45 M (ix2 0 l) = IntOp.andi (M (ix2 0 l)) 65535#32 := by simp only [k0_pay45]; pointwise
theorem p46 : k0_pay46 A (ix2 r l) = rnd (neg (A (ix2 r l))) := by simp only [k0_pay46]; pointwise; rw [p42]; rfl
theorem p47 : k0_pay47 A (ix2 r l) = IntOp.shrui .vector (absK (A (ix2 r l))) 16#32 := by simp only [k0_pay47]; pointwise; rw [p43]
theorem p48 : k0_pay48 A (ix2 r l) = IntOp.andi (absK (A (ix2 r l))) 65535#32 := by simp only [k0_pay48]; pointwise; rw [p43]
theorem p49 : k0_pay49 A M (ix2 r l) = loP (absK (A (ix2 r l))) (M (ix2 0 l)) := by
  simp only [k0_pay49]; pointwise; rw [p48, p45]; rfl
theorem p50 : k0_pay50 A M (ix2 r l) = midP (absK (A (ix2 r l))) (M (ix2 0 l)) := by
  simp only [k0_pay50]; pointwise; rw [p47, p48, p45, p44]; rfl
theorem p51 : k0_pay51 A M (ix2 r l) = tP (absK (A (ix2 r l))) (M (ix2 0 l)) := by
  simp only [k0_pay51]; pointwise; rw [p49, p50]; rfl
theorem p52 : k0_pay52 A M (ix2 r l) = lowP (absK (A (ix2 r l))) (M (ix2 0 l)) := by
  simp only [k0_pay52]; pointwise; rw [p51, p49]; rfl
theorem p53 : k0_pay53 A M (ix2 r l) = hiP (absK (A (ix2 r l))) (M (ix2 0 l)) := by
  simp only [k0_pay53]; pointwise; rw [p47, p44, p50, p51]; rfl
theorem p54 (n : IVec S256x512 1) (c lo hi : IVec S256x512 32) (h : c (ix2 r l) = rnd (n (ix2 r l))) :
    k0_pay54 n c lo hi (ix2 r l) = quotK (n (ix2 r l)) (lo (ix2 r l)) (hi (ix2 r l)) := by
  simp only [k0_pay54]; pointwise; rw [h]; rfl
theorem p55 : k0_pay55 S (ix2 0 l) = inW (S (ix2 0 l)) := by simp only [k0_pay55]; pointwise; rfl
theorem p56 : k0_pay56 S (ix2 0 l) = shK (S (ix2 0 l)) := by simp only [k0_pay56]; pointwise; rw [p55]; rfl
theorem p57 (n : IVec S256x512 1) (c lo hi : IVec S256x512 32) (q : BitVec 32) (h : k0_pay54 n c lo hi (ix2 r l) = q) :
    k0_pay57 S n c lo hi (ix2 r l)
      = Scalar.select (inW (S (ix2 0 l))) (IntOp.shrsi .vector q (shK (S (ix2 0 l)))) (IntOp.shrsi .vector q 31#32) := by
  simp only [k0_pay57]; pointwise; rw [h, p55, p56]
theorem p58 (n : IVec S256x512 1) (c lo hi : IVec S256x512 32) (q : BitVec 32) (h : k0_pay54 n c lo hi (ix2 r l) = q) :
    k0_pay58 S n c lo hi (ix2 r l) = IntOp.cmpi .sgt (IntOp.andi q (maskK (S (ix2 0 l))))
      (IntOp.addi (IntOp.shrsi .vector (maskK (S (ix2 0 l))) 1#32) (BitVec.setWidth 32 (neg q))) := by
  simp only [k0_pay58]; pointwise; rw [h, p55, p56]; rfl
theorem p59 (zc : BitVec 32) (q : IVec S256x512 32) (b : IVec S256x512 1) :
    k0_pay59 (F := Ideal) zc q b (ix2 r l) = outB (IntOp.addi (q (ix2 r l)) (BitVec.setWidth 32 (b (ix2 r l)))) zc := by
  simp only [k0_pay59]; pointwise; rfl

/-- The exact path's requantization of an accumulator block at an index of the first 256 rows. -/
theorem slowLoR_at (zc : BitVec 32) :
    slowLoR (F := Ideal) A M S zc (ix2 r l) = reqK (A (ix2 r l)) (M (ix2 0 l)) (S (ix2 0 l)) zc := by
  have hq : k0_pay54 (k0_pay42 A) (k0_pay46 A) (k0_pay52 A M) (k0_pay53 A M) (ix2 r l)
      = quotK (neg (A (ix2 r l))) (lowP (absK (A (ix2 r l))) (M (ix2 0 l))) (hiP (absK (A (ix2 r l))) (M (ix2 0 l))) := by
    rw [p54 r l _ _ _ _ (by rw [p46, p42]), p42, p52, p53]
  rw [slowLoR, p59, p57 S r l _ _ _ _ _ hq, p58 S r l _ _ _ _ _ hq]
  rfl
end Lo

/-! ## The last 256 rows -/

section Hi
variable (A B C : IVec S256x512 32) (D M S : IVec S1x512 32) (r : Fin 256) (l : Fin 512)

/-- The accumulator of the last 256 rows at an index, from its terms. -/
def hiAcc : BitVec 32 := IntOp.addi (IntOp.subi (A (ix2 r l)) (IntOp.muli (B (ix2 r l)) (C (ix2 r l)))) (D (ix2 0 l))

theorem p63 : k0_pay63 (F := Ideal) A B C D (ix2 r l) = hiAcc A B C D r l := by simp only [k0_pay63]; pointwise; rfl
theorem p64 : k0_pay64 (F := Ideal) M (ix2 0 l) = M (ix2 0 l) := by simp only [k0_pay64]; pointwise
theorem p65 : k0_pay65 (F := Ideal) M (ix2 0 l) = M (ix2 0 l) := by simp only [k0_pay65]; pointwise
theorem p66 : k0_pay66 (F := Ideal) A B C D (ix2 r l) = neg (hiAcc A B C D r l) := by simp only [k0_pay66]; pointwise; rw [p63]; rfl
theorem p67 : k0_pay67 (F := Ideal) A B C D (ix2 r l) = absK (hiAcc A B C D r l) := by simp only [k0_pay67]; pointwise; rw [p66, p63]; rfl
theorem p68 : k0_pay68 (F := Ideal) M (ix2 0 l) = IntOp.shrui .vector (M (ix2 0 l)) 16#32 := by simp only [k0_pay68]; pointwise; rw [p64]
theorem p69 : k0_pay69 (F := Ideal) M (ix2 0 l) = IntOp.andi (M (ix2 0 l)) 65535#32 := by simp only [k0_pay69]; pointwise; rw [p64]
theorem p70 : k0_pay70 (F := Ideal) A B C D (ix2 r l) = rnd (neg (hiAcc A B C D r l)) := by simp only [k0_pay70]; pointwise; rw [p66]; rfl
theorem p71 : k0_pay71 (F := Ideal) A B C D (ix2 r l) = IntOp.shrui .vector (absK (hiAcc A B C D r l)) 16#32 := by
  simp only [k0_pay71]; pointwise; rw [p67]
theorem p72 : k0_pay72 (F := Ideal) A B C D (ix2 r l) = IntOp.andi (absK (hiAcc A B C D r l)) 65535#32 := by
  simp only [k0_pay72]; pointwise; rw [p67]
theorem p73 : k0_pay73 (F := Ideal) A B C D M (ix2 r l) = loP (absK (hiAcc A B C D r l)) (M (ix2 0 l)) := by
  simp only [k0_pay73]; pointwise; rw [p72, p69]; rfl
theorem p74 : k0_pay74 (F := Ideal) A B C D M (ix2 r l) = midP (absK (hiAcc A B C D r l)) (M (ix2 0 l)) := by
  simp only [k0_pay74]; pointwise; rw [p71, p72, p69, p68]; rfl
theorem p75 : k0_pay75 (F := Ideal) A B C D M (ix2 r l)
    = IntOp.muli (IntOp.shrui .vector (absK (hiAcc A B C D r l)) 16#32) (IntOp.shrui .vector (M (ix2 0 l)) 16#32) := by
  simp only [k0_pay75]; pointwise; rw [p71, p68]
theorem p76 : k0_pay76 (F := Ideal) A B C D M (ix2 r l) = tP (absK (hiAcc A B C D r l)) (M (ix2 0 l)) := by
  simp only [k0_pay76]; pointwise; rw [p73, p74]; rfl
theorem p77 : k0_pay77 (F := Ideal) A B C D M (ix2 r l) = IntOp.andi (tP (absK (hiAcc A B C D r l)) (M (ix2 0 l))) 65535#32 := by
  simp only [k0_pay77]; pointwise; rw [p76]
/-- The last 256 rows' rounded quotient, from the payloads it reads. -/
theorem p78 (n : IVec S256x512 1) (c lo mid hh t tl : IVec S256x512 32) (a m : BitVec 32) (hn : n (ix2 r l) = neg a) (hc : c (ix2 r l) = rnd (neg a))
    (hlo : lo (ix2 r l) = loP (absK a) m) (hmid : mid (ix2 r l) = midP (absK a) m)
    (hhh : hh (ix2 r l) = IntOp.muli (IntOp.shrui .vector (absK a) 16#32) (IntOp.shrui .vector m 16#32))
    (ht : t (ix2 r l) = tP (absK a) m) (htl : tl (ix2 r l) = IntOp.andi (tP (absK a) m) 65535#32) :
    k0_pay78 n c lo mid hh t tl (ix2 r l) = quotK (neg a) (lowP (absK a) m) (hiP (absK a) m) := by
  simp only [k0_pay78]; pointwise; rw [hn, hc, hlo, hmid, hhh, ht, htl]; rfl
theorem p79 : k0_pay79 S (ix2 0 l) = inW (S (ix2 0 l)) := by simp only [k0_pay79]; pointwise; rfl
theorem p80 : k0_pay80 S (ix2 0 l) = shK (S (ix2 0 l)) := by simp only [k0_pay80]; pointwise; rw [p79]; rfl
theorem p81 : k0_pay81 S (ix2 0 l) = maskK (S (ix2 0 l)) := by simp only [k0_pay81]; pointwise; rw [p79, p80]; rfl
theorem p82 (n : IVec S256x512 1) (c lo mid hh t tl : IVec S256x512 32) :
    k0_pay82 S n c lo mid hh t tl (ix2 r l) = IntOp.andi (k0_pay78 n c lo mid hh t tl (ix2 r l)) (maskK (S (ix2 0 l))) := by
  simp only [k0_pay82]; pointwise; rw [p81]
theorem p83 : k0_pay83 S (ix2 0 l) = IntOp.shrsi .vector (maskK (S (ix2 0 l))) 1#32 := by simp only [k0_pay83]; pointwise; rw [p81]
theorem p10 (zc : BitVec 32) (q : IVec S256x512 32) (w : IVec S1x512 1) (sh : IVec S1x512 32) (qm : IVec S256x512 32) (hm : IVec S1x512 32) (s : BitVec 32)
    (hw : w (ix2 0 l) = inW s) (hs : sh (ix2 0 l) = shK s) (hqm : qm (ix2 r l) = IntOp.andi (q (ix2 r l)) (maskK s))
    (hhm : hm (ix2 0 l) = IntOp.shrsi .vector (maskK s) 1#32) :
    k0_pay10 (F := Ideal) zc q w sh qm hm (ix2 r l) = outB (divK (q (ix2 r l)) s) zc := by
  simp only [k0_pay10]; pointwise; rw [hw, hs, hqm, hhm]; rfl

/-- The exact path's requantization of an accumulator block at an index of the last 256 rows. -/
theorem slowHiR_at (zc : BitVec 32) :
    slowHiR (F := Ideal) A B C D M S zc (ix2 r l) = reqK (hiAcc A B C D r l) (M (ix2 0 l)) (S (ix2 0 l)) zc := by
  rw [slowHiR, p10 r l _ _ _ _ _ _ (S (ix2 0 l)) (by rw [p79, p65]) (by rw [p80, p65]) (by rw [p82, p65]) (by rw [p83, p65]),
    p78 r l _ _ _ _ _ _ _ (hiAcc A B C D r l) (M (ix2 0 l)) (p66 ..) (p70 ..) (p73 ..) (p74 ..) (p75 ..) (p76 ..) (p77 ..)]
  rfl
end Hi
end Cert.Proof.KV
end
-- ==== Proof.Block.lean ====
module

public import proofs.«01_k».proof.Proof.Params
public import proofs.«01_k».proof.Proof.SlowPath

/-! The block a grid point stores, at an index: the accumulator of its row and column, requantized. -/

@[expose] public section
namespace Cert.Proof.KV
open Cert.KernelIdeal Cert.KernelIdeal.Gen Cert.Proof.KI Cert.Proof.Rq
open Idealize.ShloMosaic Idealize.ShloMosaic.TcCoe Idealize.ShloMosaic.Tactic
set_option maxRecDepth 8192
set_option maxHeartbeats 1000000

/-- A byte centred at 128, as an extended real. -/
abbrev cen (x : BitVec 8) : EReal := (((bz x - 128 : ℤ) : ℝ) : EReal)

/-- The two rows' chunks, converted: what the three products of a block read at row `r` and column `l`. -/
structure Chunks (X W : Fin 2560 → BitVec 8) (r : Fin 256) (l : Fin 512) (a0 : Vec Ideal S256x1024 .bf16) (b0 : Vec Ideal S512x1024 .bf16)
    (a1 : Vec Ideal S256x1024 .bf16) (b1 : Vec Ideal S512x1024 .bf16) (a2 : Vec Ideal S256x512 .bf16) (b2 : Vec Ideal S512x512 .bf16) : Prop where
  ha0 : ∀ x : Fin 1024, a0 (ix2 r x) = cen (X ⟨x.val, by omega⟩)
  hb0 : ∀ x : Fin 1024, b0 (ix2 l x) = cen (W ⟨x.val, by omega⟩)
  ha1 : ∀ x : Fin 1024, a1 (ix2 r x) = cen (X ⟨1024 + x.val, by omega⟩)
  hb1 : ∀ x : Fin 1024, b1 (ix2 l x) = cen (W ⟨1024 + x.val, by omega⟩)
  ha2 : ∀ x : Fin 512, a2 (ix2 r x) = cen (X ⟨2048 + x.val, by omega⟩)
  hb2 : ∀ x : Fin 512, b2 (ix2 l x) = cen (W ⟨2048 + x.val, by omega⟩)

section Products
variable {X W : Fin 2560 → BitVec 8} {r : Fin 256} {l : Fin 512} {a0 : Vec Ideal S256x1024 .bf16} {b0 : Vec Ideal S512x1024 .bf16}
  {a1 : Vec Ideal S256x1024 .bf16} {b1 : Vec Ideal S512x1024 .bf16} {a2 : Vec Ideal S256x512 .bf16} {b2 : Vec Ideal S512x512 .bf16}
  (hc : Chunks X W r l a0 b0 a1 b1 a2 b2)
include hc

/-- The three rounded products add up to the word of the exact dot product. -/
theorem products :
    IntOp.addi (IntOp.addi
        (FloatOps.fptosi 32 (F := Ideal) (φ := .f32) (Ideal.liftRound Ideal.roundHalfEven (∑ x : Fin 1024, a0 (ix2 r x) * b0 (ix2 l x) : EReal)))
        (FloatOps.fptosi 32 (F := Ideal) (φ := .f32) (Ideal.liftRound Ideal.roundHalfEven (∑ x : Fin 1024, a1 (ix2 r x) * b1 (ix2 l x) : EReal))))
        (FloatOps.fptosi 32 (F := Ideal) (φ := .f32) (Ideal.liftRound Ideal.roundHalfEven (∑ x : Fin 512, a2 (ix2 r x) * b2 (ix2 l x) : EReal)))
      = BitVec.ofInt 32 (dotZ X W) := by
  rw [chunk_word (by norm_num) _ _ _ _ hc.ha0 hc.hb0, chunk_word (by norm_num) _ _ _ _ hc.ha1 hc.hb1, chunk_word (by norm_num) _ _ _ _ hc.ha2 hc.hb2,
    addi_ofInt, addi_ofInt, dotZ, sum_split]
  rfl

/-- The accumulator payload of the first 256 rows. -/
theorem pay31_at (rs : Vec Ideal S256x128 .i32) (z h : Vec Ideal S1x512 .i32) (ρ : BitVec 32) (hr : ∀ u, rs (ix2 r u) = ρ) :
    k0_pay31 a0 b0 a1 b1 a2 b2 rs z h (ix2 r l)
      = IntOp.addi (IntOp.subi (BitVec.ofInt 32 (dotZ X W)) (IntOp.muli ρ (z (ix2 0 l)))) (h (ix2 0 l)) := by
  rw [← products hc]
  simp only [k0_pay31]
  pointwise
  simp only [hr]
  split_ifs
  all_goals first | rfl | omega

/-- The exact path's product payload of the last 256 rows. -/
theorem pay60_at : k0_pay60 a0 b0 a1 b1 a2 b2 (ix2 r l) = BitVec.ofInt 32 (dotZ X W) := by
  rw [← products hc]
  simp only [k0_pay60]
  pointwise
end Products

theorem pay61_at (rs : Vec Ideal S256x128 .i32) (ρ : BitVec 32) (r : Fin 256) (l : Fin 512) (hr : ∀ u, rs (ix2 r u) = ρ) :
    k0_pay61 (F := Ideal) rs (ix2 r l) = ρ := by
  simp only [k0_pay61]
  pointwise
  simp only [hr]
  split_ifs
  all_goals first | rfl | omega
theorem pay62_at (z : Vec Ideal S1x512 .i32) (r : Fin 256) (l : Fin 512) : k0_pay62 (F := Ideal) z (ix2 r l) = z (ix2 0 l) := by
  simp only [k0_pay62]
  pointwise

/-- The fast path's requantization of an accumulator payload at an index. -/
theorem pay33_at (a b : IVec S256x512 32) (h c0 c1 : Vec Ideal S1x512 .i32) (f0 f1 f2 : Vec Ideal S1x512 .f32) (r : Fin 256) (l : Fin 512)
    {ah H m C0 C1 : BitVec 32} {F0 F1 F2 : EReal} (ha : a (ix2 r l) = ah) (hb : b (ix2 r l) = IntOp.muli ah m) (hh : h (ix2 0 l) = H)
    (h0 : c0 (ix2 0 l) = C0) (h1 : c1 (ix2 0 l) = C1) (g0 : f0 (ix2 0 l) = F0) (g1 : f1 (ix2 0 l) = F1) (g2 : f2 (ix2 0 l) = F2) :
    k0_pay33 a b h c0 c1 f0 f1 f2 (ix2 r l) = fastB ah (lowW ah H m C0 C1) F0 F1 F2 := by
  simp only [k0_pay33]
  pointwise
  rw [ha, hb, hh, h0, h1, g0, g1, g2]; rfl
theorem pay9_at (a b : IVec S256x512 32) (n : IVec S256x512 1) (c0 c1 : IVec S256x512 32) (f0 f1 f2 : Vec Ideal S1x512 .f32) (r : Fin 256) (l : Fin 512)
    {ah H m C0 C1 : BitVec 32} {F0 F1 F2 : EReal} (ha : a (ix2 r l) = ah) (hb : b (ix2 r l) = IntOp.muli ah m) (hn : n (ix2 r l) = IntOp.cmpi .slt ah H)
    (h0 : c0 (ix2 r l) = C0) (h1 : c1 (ix2 r l) = C1) (g0 : f0 (ix2 0 l) = F0) (g1 : f1 (ix2 0 l) = F1) (g2 : f2 (ix2 0 l) = F2) :
    k0_pay9 (F := Ideal) a b n c0 c1 f0 f1 f2 (ix2 r l) = fastB ah (lowW ah H m C0 C1) F0 F1 F2 := by
  simp only [k0_pay9]
  pointwise
  rw [ha, hb, hn, h0, h1, g0, g1, g2]; rfl

theorem addi_assoc (a b c : BitVec 32) : IntOp.addi a (IntOp.addi b c) = IntOp.addi (IntOp.addi a b) c := (BitVec.add_assoc a b c).symm

/-- A window of a matrix at an index. -/
theorem win_at {n C p q : ℕ} {e : EltTy} (X : Vec Ideal (⟨2, ![n, C]⟩ : Shape) e) (off : Fin 2 → ℕ) (a b : ℕ) (h : off = ![a, b])
    (inb : ∀ x, off x + (![p, q] : Fin 2 → ℕ) x ≤ (⟨2, ![n, C]⟩ : Shape).size x) (r : Fin p) (k : Fin q) (hr : a + r.val < n) (hk : b + k.val < C) :
    win X off ![p, q] inb (ix2 r k) = X (ix2 ⟨a + r.val, hr⟩ ⟨b + k.val, hk⟩) := by
  subst h
  refine congrArg X ?_
  funext x; fin_cases x
  · exact Fin.ext (by show a + 1 * r.val = a + r.val; omega)
  · exact Fin.ext (by show b + 1 * k.val = b + k.val; omega)

/-! ## The two paths of a grid point -/

/-- The matrix scratch buffers a grid point reads: the centred rows, their sums and the centred weights. -/
structure Bufs (Xr : Fin 9216 → Fin 2560 → BitVec 8) (Wr : Fin 512 → Fin 2560 → BitVec 8) (X11 : Vec Ideal S9216x2560 .bf16)
    (X12 : Vec Ideal S9216x128 .i32) (X13 : Vec Ideal S512x2560 .bf16) : Prop where
  hX : ∀ R k, X11 (ix2 R k) = cen (Xr R k)
  hR : ∀ R u, X12 (ix2 R u) = BitVec.ofInt 32 (sumZ (Xr R))
  hW : ∀ l k, X13 (ix2 l k) = cen (Wr l k)

theorem rowBase_lt (i : grid0.Coords) (h : Fin 2) (r : Fin 256) : 512 * (i 1).val + 256 * h.val + r.val < 9216 := by
  have h1 : (i 1).val < 18 := (i 1).isLt
  omega

/-- The row of the activations a grid point's half `h` reads at its row `r`. -/
abbrev rowOf (i : grid0.Coords) (h : Fin 2) (r : Fin 256) : Fin 9216 := ⟨512 * (i 1).val + 256 * h.val + r.val, rowBase_lt i h r⟩

section Paths
variable {Xr : Fin 9216 → Fin 2560 → BitVec 8} {Wr : Fin 512 → Fin 2560 → BitVec 8} {X11 : Vec Ideal S9216x2560 .bf16}
  {X12 : Vec Ideal S9216x128 .i32} {X13 : Vec Ideal S512x2560 .bf16} (B : Bufs Xr Wr X11 X12 X13) (i : grid0.Coords) (h : Fin 2) (r : Fin 256) (l : Fin 512)
include B

/-- The windows the fast path reads hold the row's and the column's chunks. -/
theorem chunksF : Chunks (Xr (rowOf i h r)) (Wr l) r l
    (win X11 (k0_off3 i (BitVec.ofNat 32 (256 * h.val))) S256x1024.size (k0_off3_inb i h)) (win X13 ![0, 0] S512x1024.size inb_S512x2560_S512x1024_0_0)
    (win X11 (k0_off4 i (BitVec.ofNat 32 (256 * h.val))) S256x1024.size (k0_off4_inb i h)) (win X13 ![0, 1024] S512x1024.size inb_S512x2560_S512x1024_0_1024)
    (win X11 (k0_off5 i (BitVec.ofNat 32 (256 * h.val))) S256x512.size (k0_off5_inb i h)) (win X13 ![0, 2048] S512x512.size inb_S512x2560_S512x512_0_2048) where
  ha0 x := by rw [← B.hX]; exact (win_at X11 _ _ _ (k0_off3_eq i h) _ r x (rowBase_lt i h r) (by omega)).trans (congrArg X11 (congrArg (ix2 _) (Fin.ext (by simp))))
  ha1 x := by rw [← B.hX]; exact win_at X11 _ _ _ (k0_off4_eq i h) _ r x (rowBase_lt i h r) (by omega)
  ha2 x := by rw [← B.hX]; exact win_at X11 _ _ _ (k0_off5_eq i h) _ r x (rowBase_lt i h r) (by omega)
  hb0 x := by rw [← B.hW]; exact (win_at X13 _ 0 0 rfl _ l x (by omega) (by omega)).trans (congrArg X13 (congrArg₂ ix2 (Fin.ext (by simp)) (Fin.ext (by simp))))
  hb1 x := by rw [← B.hW]; exact (win_at X13 _ 0 1024 rfl _ l x (by omega) (by omega)).trans (congrArg X13 (congrArg₂ ix2 (Fin.ext (by simp)) rfl))
  hb2 x := by rw [← B.hW]; exact (win_at X13 _ 0 2048 rfl _ l x (by omega) (by omega)).trans (congrArg X13 (congrArg₂ ix2 (Fin.ext (by simp)) rfl))

/-- The windows the exact path reads hold the row's and the column's chunks. -/
theorem chunksS : Chunks (Xr (rowOf i h r)) (Wr l) r l
    (win X11 (k0_off7 i (BitVec.ofNat 32 (256 * h.val))) S256x1024.size (k0_off7_inb i h)) (win X13 ![0, 0] S512x1024.size inb_S512x2560_S512x1024_0_0)
    (win X11 (k0_off8 i (BitVec.ofNat 32 (256 * h.val))) S256x1024.size (k0_off8_inb i h)) (win X13 ![0, 1024] S512x1024.size inb_S512x2560_S512x1024_0_1024)
    (win X11 (k0_off9 i (BitVec.ofNat 32 (256 * h.val))) S256x512.size (k0_off9_inb i h)) (win X13 ![0, 2048] S512x512.size inb_S512x2560_S512x512_0_2048) where
  ha0 x := by rw [← B.hX]; exact (win_at X11 _ _ _ (k0_off7_eq i h) _ r x (rowBase_lt i h r) (by omega)).trans (congrArg X11 (congrArg (ix2 _) (Fin.ext (by simp))))
  ha1 x := by rw [← B.hX]; exact win_at X11 _ _ _ (k0_off8_eq i h) _ r x (rowBase_lt i h r) (by omega)
  ha2 x := by rw [← B.hX]; exact win_at X11 _ _ _ (k0_off9_eq i h) _ r x (rowBase_lt i h r) (by omega)
  hb0 := (chunksF B i h r l).hb0
  hb1 := (chunksF B i h r l).hb1
  hb2 := (chunksF B i h r l).hb2

/-- The row sums the fast path reads. -/
theorem sumsF (u : Fin 128) : win X12 (k0_off6 i (BitVec.ofNat 32 (256 * h.val))) S256x128.size (k0_off6_inb i h) (ix2 r u)
    = BitVec.ofInt 32 (sumZ (Xr (rowOf i h r))) := by
  rw [← B.hR _ u]; exact (win_at X12 _ _ _ (k0_off6_eq i h) _ r u (rowBase_lt i h r) (by omega)).trans (congrArg X12 (congrArg (ix2 _) (Fin.ext (by simp))))
/-- The row sums the exact path reads. -/
theorem sumsS (u : Fin 128) : win X12 (k0_off10 i (BitVec.ofNat 32 (256 * h.val))) S256x128.size (k0_off10_inb i h) (ix2 r u)
    = BitVec.ofInt 32 (sumZ (Xr (rowOf i h r))) := by
  rw [← B.hR _ u]; exact (win_at X12 _ _ _ (k0_off10_eq i h) _ r u (rowBase_lt i h r) (by omega)).trans (congrArg X12 (congrArg (ix2 _) (Fin.ext (by simp))))

/-- A column's parameters: the rows of the parameter buffers at that column. -/
structure Cols (X14 : Vec Ideal S8x512 .i32) (X15 : Vec Ideal S8x512 .f32) (W : Fin 2560 → BitVec 8) (za zc zb bias m s : BitVec 32) (l : Fin 512) : Prop where
  i0 : X14 (ix2 0 l) = IntOp.subi zb 128#32
  i1 : X14 (ix2 1 l) = IntOp.addi (colW W za zb bias) (hW zc m s)
  i2 : X14 (ix2 2 l) = hW zc m s
  i3 : X14 (ix2 3 l) = m
  i4 : X14 (ix2 4 l) = c0W zc m s
  i5 : X14 (ix2 5 l) = IntOp.xori (c0W zc m s) 2147483648#32
  i6 : X14 (ix2 6 l) = colW W za zb bias
  f0 : X15 (ix2 0 l) = f0W m s
  f1 : X15 (ix2 1 l) = scW s
  f2 : X15 (ix2 2 l) = f2W zc m s

variable {X14 : Vec Ideal S8x512 .i32} {X15 : Vec Ideal S8x512 .f32} {za zc zb bias m s : BitVec 32} (C : Cols X14 X15 (Wr l) za zc zb bias m s l)
include C

/-- The fast path's accumulator payload: the accumulator with the column's offset. -/
theorem accF : k0_pay31
    (win X11 (k0_off3 i (BitVec.ofNat 32 (256 * h.val))) S256x1024.size (k0_off3_inb i h)) (win X13 ![0, 0] S512x1024.size inb_S512x2560_S512x1024_0_0)
    (win X11 (k0_off4 i (BitVec.ofNat 32 (256 * h.val))) S256x1024.size (k0_off4_inb i h)) (win X13 ![0, 1024] S512x1024.size inb_S512x2560_S512x1024_0_1024)
    (win X11 (k0_off5 i (BitVec.ofNat 32 (256 * h.val))) S256x512.size (k0_off5_inb i h)) (win X13 ![0, 2048] S512x512.size inb_S512x2560_S512x512_0_2048)
    (win X12 (k0_off6 i (BitVec.ofNat 32 (256 * h.val))) S256x128.size (k0_off6_inb i h)) (win X14 ![0, 0] S1x512.size inb_S8x512_S1x512_0_0) (win X14 ![1, 0] S1x512.size inb_S8x512_S1x512_1_0)
    (ix2 r l) = IntOp.addi (BitVec.ofInt 32 (accZ (Xr (rowOf i h r)) (Wr l) za zb bias)) (hW zc m s) := by
  rw [pay31_at (chunksF B i h r l) _ _ _ _ (sumsF B i h r), ← accK_eq, ← addi_assoc, ← C.i0, ← C.i1]
  exact congrArg₂ (fun a b => IntOp.addi (IntOp.subi _ (IntOp.muli _ a)) b) (win_row X14 0 _ l) (win_row X14 1 _ l)

/-- The fast path's byte at an index of the first 256 rows. -/
theorem fastLo_at : fastLo i X11 X12 X13 X14 X15 (ix2 r l)
    = fastB (IntOp.addi (BitVec.ofInt 32 (accZ (Xr (rowOf i 0 r)) (Wr l) za zb bias)) (hW zc m s))
        (lowW (IntOp.addi (BitVec.ofInt 32 (accZ (Xr (rowOf i 0 r)) (Wr l) za zb bias)) (hW zc m s)) (hW zc m s) m (c0W zc m s) (IntOp.xori (c0W zc m s) 2147483648#32))
        (f0W m s) (scW s) (f2W zc m s) := by
  have e := accF B i 0 r l C
  refine pay33_at _ _ _ _ _ _ _ _ r l e ?_ ((win_row X14 2 _ l).trans C.i2) ((win_row X14 4 _ l).trans C.i4) ((win_row X14 5 _ l).trans C.i5)
    ((win_row X15 0 _ l).trans C.f0) ((win_row X15 1 _ l).trans C.f1) ((win_row X15 2 _ l).trans C.f2)
  simp only [k0_pay32]
  pointwise
  exact congrArg₂ IntOp.muli e ((win_row X14 3 _ l).trans C.i3)

omit B C in
/-- The two halves' accumulator payloads are one function. -/
theorem pay34_eq (a0 : Vec Ideal S256x1024 .bf16) (b0 : Vec Ideal S512x1024 .bf16) (a1 : Vec Ideal S256x1024 .bf16) (b1 : Vec Ideal S512x1024 .bf16)
    (a2 : Vec Ideal S256x512 .bf16) (b2 : Vec Ideal S512x512 .bf16) (rs : Vec Ideal S256x128 .i32) (z t : Vec Ideal S1x512 .i32) :
    k0_pay34 a0 b0 (constant S256x512 .f32 0x00000000#32) a1 b1 a2 b2 rs z t = k0_pay31 a0 b0 a1 b1 a2 b2 rs z t := rfl
omit B C in
theorem pay39_eq (a0 : Vec Ideal S256x1024 .bf16) (b0 : Vec Ideal S512x1024 .bf16) (a1 : Vec Ideal S256x1024 .bf16) (b1 : Vec Ideal S512x1024 .bf16)
    (a2 : Vec Ideal S256x512 .bf16) (b2 : Vec Ideal S512x512 .bf16) (rs : Vec Ideal S256x128 .i32) (z t : Vec Ideal S1x512 .i32) :
    k0_pay39 a0 b0 a1 b1 a2 b2 rs z t = k0_pay31 a0 b0 a1 b1 a2 b2 rs z t := rfl

/-- The fast path's byte at an index of the last 256 rows. -/
theorem fastHi_at : fastHi i X11 X12 X13 X14 X15 (ix2 r l)
    = fastB (IntOp.addi (BitVec.ofInt 32 (accZ (Xr (rowOf i 1 r)) (Wr l) za zb bias)) (hW zc m s))
        (lowW (IntOp.addi (BitVec.ofInt 32 (accZ (Xr (rowOf i 1 r)) (Wr l) za zb bias)) (hW zc m s)) (hW zc m s) m (c0W zc m s) (IntOp.xori (c0W zc m s) 2147483648#32))
        (f0W m s) (scW s) (f2W zc m s) := by
  have e := accF B i 1 r l C
  refine pay9_at _ _ _ _ _ _ _ _ r l ((congrFun (pay34_eq ..) _).trans e) ?_ ?_ ?_ ?_
    ((win_row X15 0 _ l).trans C.f0) ((win_row X15 1 _ l).trans C.f1) ((win_row X15 2 _ l).trans C.f2)
  · simp only [k0_pay35, pay34_eq]
    pointwise
    exact congrArg₂ IntOp.muli e ((win_row X14 3 _ l).trans C.i3)
  · simp only [k0_pay36, pay34_eq]
    pointwise
    exact congrArg₂ (IntOp.cmpi .slt) e ((win_row X14 2 _ l).trans C.i2)
  · simp only [k0_pay37]
    pointwise
    exact (win_row X14 4 _ l).trans C.i4
  · simp only [k0_pay38]
    pointwise
    exact (win_row X14 5 _ l).trans C.i5

/-- The exact path's accumulator at an index of the first 256 rows. -/
theorem slowAcc_at : slowAcc i X11 X12 X13 X14 (ix2 r l) = BitVec.ofInt 32 (accZ (Xr (rowOf i 0 r)) (Wr l) za zb bias) := by
  rw [slowAcc, pay39_eq]
  refine (pay31_at (chunksS B i 0 r l) _ _ _ _ (sumsS B i 0 r)).trans ?_
  rw [← accK_eq, ← C.i0, ← C.i6]
  exact congrArg₂ (fun a b => IntOp.addi (IntOp.subi _ (IntOp.muli _ a)) b) (win_row X14 0 _ l) (win_row X14 6 _ l)

/-- The exact path's byte at an index of the first 256 rows. -/
theorem slowLo_at (X3 : Vec Ideal S1 .i32) (X8 X9 : Vec Ideal S1x512 .i32) : slowLo i X3 X8 X9 X11 X12 X13 X14 (ix2 r l)
    = reqK (BitVec.ofInt 32 (accZ (Xr (rowOf i 0 r)) (Wr l) za zb bias)) (X8 (ix2 0 l)) (X9 (ix2 0 l)) (X3 z1) := by
  rw [slowLo, slowLoR_at, slowAcc_at B i r l C]
  simp only [k0_pay40, k0_pay41]
  pointwise

/-- The exact path's byte at an index of the last 256 rows. -/
theorem slowHi_at (X3 : Vec Ideal S1 .i32) (X8 X9 : Vec Ideal S1x512 .i32) : slowHi i X3 X8 X9 X11 X12 X13 X14 (ix2 r l)
    = reqK (BitVec.ofInt 32 (accZ (Xr (rowOf i 1 r)) (Wr l) za zb bias)) (X8 (ix2 0 l)) (X9 (ix2 0 l)) (X3 z1) := by
  refine (slowHiR_at _ _ _ _ _ _ r l _).trans (congrArg (reqK · _ _ _) ?_)
  rw [← accK_eq, ← C.i0, ← C.i6]
  exact congrArg₂ (fun a b => IntOp.addi a b) (congrArg₂ (fun a b => IntOp.subi a b) (pay60_at (chunksS B i 1 r l))
    (congrArg₂ (fun a b => IntOp.muli a b) (pay61_at _ _ r l (sumsS B i 1 r)) ((pay62_at _ r l).trans (win_row X14 0 _ l)))) (win_row X14 6 _ l)
end Paths

/-- A block of two halves at an index. -/
theorem halves_lo (old : Vec Ideal S512x512 .i8) (lo hi : IVec S256x512 8) (r : Fin 256) (l : Fin 512) :
    halves old lo hi (ix2 ⟨r.val, by omega⟩ l) = lo (ix2 r l) := by
  unfold halves VecWindow.put
  rw [dif_neg (by intro h; have := (h 0).1; simp at this; omega), dif_pos (by intro a; fin_cases a <;> simp <;> omega)]
  congr 1
  funext a; fin_cases a
  · exact Fin.ext (by show r.val - 0 = r.val; omega)
  · exact Fin.ext (by show l.val - 0 = l.val; omega)
theorem halves_hi (old : Vec Ideal S512x512 .i8) (lo hi : IVec S256x512 8) (r : Fin 256) (l : Fin 512) :
    halves old lo hi (ix2 ⟨256 + r.val, by omega⟩ l) = hi (ix2 r l) := by
  unfold halves VecWindow.put
  rw [dif_pos (by intro a; fin_cases a <;> simp <;> omega)]
  congr 1
  funext a; fin_cases a
  · exact Fin.ext (by show 256 + r.val - 256 = r.val; omega)
  · exact Fin.ext (by show l.val - 0 = l.val; omega)

/-- A column's parameter rows after the set-up. -/
theorem cols_at (X2 X3 : Vec Ideal S1 .i32) (X5 : Vec Ideal S512x2560 .i8) (X6 X7 X8 X9 : Vec Ideal S1x512 .i32)
    (old : Vec Ideal S8x512 .i32) (oldf : Vec Ideal S8x512 .f32) (l : Fin 512) :
    Cols (ipOf X2 X3 X5 X6 X7 X8 X9 old) (fpOf X3 X8 X9 oldf) (fun k => X5 (ix2 l k)) (X2 z1) (X3 z1) (X6 (ix2 0 l)) (X7 (ix2 0 l)) (X8 (ix2 0 l)) (X9 (ix2 0 l)) l where
  i0 := ip0 ..
  i1 := ip1 ..
  i2 := ip2 ..
  i3 := ip3 ..
  i4 := ip4 ..
  i5 := ip5 ..
  i6 := ip6 ..
  f0 := fp0 ..
  f1 := fp1 ..
  f2 := fp2 ..

/-- The block a grid point stores, at an index: the accumulator of the row and the column, requantized as the reference does. -/
theorem outPut_at (i : grid0.Coords) (Xr : Fin 9216 → Fin 2560 → BitVec 8) (X2 X3 : Vec Ideal S1 .i32) (X5 : Vec Ideal S512x2560 .i8) (X6 X7 X8 X9 : Vec Ideal S1x512 .i32)
    (X10 : Vec Ideal S512x512 .i8) (X11 : Vec Ideal S9216x2560 .bf16) (X12 : Vec Ideal S9216x128 .i32) (old : Vec Ideal S8x512 .i32) (oldf : Vec Ideal S8x512 .f32)
    (hX : ∀ R k, X11 (ix2 R k) = cen (Xr R k)) (hR : ∀ R u, X12 (ix2 R u) = BitVec.ofInt 32 (sumZ (Xr R))) (h : Fin 2) (r : Fin 256) (l : Fin 512) :
    outPut i X3 X8 X9 X10 X11 X12 (k0_pay11 X5) (ipOf X2 X3 X5 X6 X7 X8 X9 old) (fpOf X3 X8 X9 oldf) (flagOf X2 X3 X6 X7 X8 X9) (ix2 ⟨256 * h.val + r.val, by omega⟩ l)
      = reqR (BitVec.ofInt 32 (accZ (Xr (rowOf i h r)) (fun k => X5 (ix2 l k)) (X2 z1) (X6 (ix2 0 l)) (X7 (ix2 0 l)))) (X8 (ix2 0 l)) (X9 (ix2 0 l)) (X3 z1) := by
  have B : Bufs Xr (fun l k => X5 (ix2 l k)) X11 X12 (k0_pay11 X5) := ⟨hX, hR, pay11_at X5⟩
  have C := cols_at X2 X3 X5 X6 X7 X8 X9 old oldf l
  have hidx : ∀ (lo hi : IVec S256x512 8), halves X10 lo hi (ix2 ⟨256 * h.val + r.val, by omega⟩ l) = if h = 0 then lo (ix2 r l) else hi (ix2 r l) := by
    intro lo hi
    fin_cases h
    · exact (congrArg (halves X10 lo hi) (congrArg (ix2 · l) (Fin.ext (by simp)))).trans (halves_lo X10 lo hi r l)
    · exact halves_hi X10 lo hi r l
  unfold outPut
  split_ifs with hf
  · obtain ⟨⟨s1, s2, m1, b1, b2, c1, c2⟩, a1, a2, z1', z2⟩ := flag_at X2 X3 X6 X7 X8 X9 l hf
    have hb := accZ_bound (Xr (rowOf i h r)) (fun k => X5 (ix2 l k)) _ _ _ a1 a2 b1 b2 c2 c1
    have ht := toInt_ofInt _ (by omega : -2147483648 ≤ accZ (Xr (rowOf i h r)) (fun k => X5 (ix2 l k)) (X2 z1) (X6 (ix2 0 l)) (X7 (ix2 0 l))) (by omega)
    have hs : ((X9 (ix2 0 l) : BitVec 32).toNat : ℤ) = (X9 (ix2 0 l) : BitVec 32).toInt := by
      rw [BitVec.toInt_eq_toNat_cond] at s1 s2 ⊢
      have := (X9 (ix2 0 l) : BitVec 32).isLt
      split_ifs at s1 s2 ⊢ <;> omega
    rw [hidx, ← fast_eq _ _ _ (by omega) (by omega) m1 z1' z2 _ (by rw [ht]; exact hb.1) (by rw [ht]; exact hb.2)]
    fin_cases h
    · exact fastLo_at B i r l C
    · exact fastHi_at B i r l C
  · rw [hidx, ← reqK_eq]
    fin_cases h
    · exact slowLo_at B i r l C X3 X8 X9
    · exact slowHi_at B i r l C X3 X8 X9
end Cert.Proof.KV
end
-- ==== Proof.Value.lean ====
module

public import proofs.«01_k».proof.Proof.Block
public import proofs.«01_k».proof.Proof.KernelIdealRun
public import Idealize.ShloMosaic.Lib.Pointwise
public import Idealize.ShloMosaic.Lib.Claim
public import Idealize.ShloMosaic.Lib.Pipeline.Covers

/-! What the kernel returns at an index: the accumulator of that row and column, requantized by `reqR`. -/

@[expose] public section
namespace Cert.Proof.KV
open Cert.KernelIdeal Cert.KernelIdeal.Gen Cert.Proof.KI Cert.Proof.Rq
open Idealize.ShloMosaic Idealize.ShloMosaic.TcCoe Idealize.ShloMosaic.Tactic
open Idealize.ShloMosaic.Pipeline (Dat)
set_option maxRecDepth 8192
set_option maxHeartbeats 1000000
variable (m : (ℓ : Loc nD τ sig) → Buf (Elt Ideal) ℓ) (c : Dev nD)

/-- A row of the flattened activations, as the kernel's region finds them. -/
def xr (R : Fin 9216) (k : Fin 2560) : BitVec 8 := V m c main_v2 (ix2 R k)

/-- The block holding a row, read at that row, is the row. -/
theorem bX_at (R : Fin 9216) (k : Fin 2560) :
    (bX m c ⟨R.val / 512, xpt_lt R⟩ : Vec Ideal S512x2560 .i8) (ix2 ⟨R.val % 512, Nat.mod_lt _ (by decide)⟩ k) = xr m c R k := by
  refine (iblk2_apply m c _ (by show R.val / 512 < 18; omega) _).trans ?_
  exact congrArg (fun q : Fin 9216 => (V m c main_v2 : Vec Ideal S9216x2560 .i8) (ix2 q k)) (Fin.ext (by show 512 * (R.val / 512) + R.val % 512 = R.val; omega))

theorem xbAll_at (R : Fin 9216) (k : Fin 2560) : xbAll m c (ix2 R k) = cen (xr m c R k) :=
  (pay2_at _ _ _).trans (congrArg cen (bX_at m c R k))

theorem rsAll_at (R : Fin 9216) (u : Fin 128) : rsAll m c (ix2 R u) = BitVec.ofInt 32 (sumZ (xr m c R)) :=
  (pay3_at _ _ _).trans (congrArg (fun f => BitVec.ofInt 32 (sumZ f)) (funext fun k => bX_at m c R k))

/-- What the kernel's array holds at a row and a column. -/
def kOut (R : Fin 9216) (L : Fin 10240) : BitVec 8 :=
  reqR (BitVec.ofInt 32 (accZ (xr m c R) (fun k => V m c main_arg2 (ix2 L k)) (V m c main_v0 (ix1 0)) (V m c main_v3 (ix2 0 L)) (V m c main_v4 (ix2 0 L))))
    (V m c main_v5 (ix2 0 L)) (V m c main_v6 (ix2 0 L)) (V m c main_v1 (ix1 0))

theorem coord1 : ∀ t : Fin cfg0.N, (grid0.coords t 1).val = t.val % 18 := by decide +kernel

theorem outRow_lt (t : Fin cfg0.N) (r : Fin 512) : 512 * (t.val % 18) + r.val < 9216 := by
  have : t.val % 18 < 18 := Nat.mod_lt _ (by decide); omega

/-- The block point `t` stores, at an index. -/
theorem outAt_at (t : Fin cfg0.N) (y : Fin 512) (l : Fin 512) :
    outAt m c t (ix2 y l) = kOut m c ⟨512 * (t.val % 18) + y.val, outRow_lt t y⟩ ⟨512 * (t.val / 18) + l.val, row_lt t l⟩ := by
  have h := outPut_at (grid0.coords t) (xr m c) (bZa m c t) (bZc m c t) (bWt m c t) (bZb m c t) (bBias m c t) (bM m c t) (bS m c t) (fun _ => 0#8)
    (xbAll m c) (rsAll m c) (fun _ => 0#32) (fun _ => FloatOps.ofBits (F := Ideal) .f32 0#32) (xbAll_at m c) (rsAll_at m c) ⟨y.val / 256, by omega⟩ ⟨y.val % 256, by omega⟩ l
  rw [show (⟨256 * (y.val / 256) + y.val % 256, by omega⟩ : Fin 512) = y from Fin.ext (by show 256 * (y.val / 256) + y.val % 256 = y.val; omega)] at h
  refine h.trans ?_
  have hrow : rowOf (grid0.coords t) ⟨y.val / 256, by omega⟩ ⟨y.val % 256, by omega⟩ = ⟨512 * (t.val % 18) + y.val, outRow_lt t y⟩ :=
    Fin.ext (by show 512 * (grid0.coords t 1).val + 256 * (y.val / 256) + y.val % 256 = 512 * (t.val % 18) + y.val; rw [coord1]; omega)
  rw [hrow]
  unfold kOut bZa bZc bWt bZb bBias bM bS
  rw [iblk0_apply, iblk1_apply, iblk4_apply, iblk5_apply, iblk6_apply, iblk7_apply]
  simp only [iblk3_apply]
  rfl

/-- The kernel's array after the run. -/
theorem arr_eq : (dats m 0 c).arrAt 8 (cfgs 0).N = (fun z => kOut m c (z 0) (z 1) : Vec Ideal S9216x10240 .i8) := by
  refine (dats m 0 c).arrAt_eq_of_covers 8 _ (by decide +kernel) fun t hf y => ?_
  blk_simp
  rw [after0_8]
  frame_out
  have e0 : (((View.whole main_v7).slice (win0_8.rect t)).emb y 0 : Fin 9216) = ⟨512 * (t.val % 18) + (y 0).val, outRow_lt t (y 0)⟩ := by
    refine Fin.ext ?_
    blk_simp [idx8 t]
    simp [idx8 t]
    omega
  have e1 : (((View.whole main_v7).slice (win0_8.rect t)).emb y 1 : Fin 10240) = ⟨512 * (t.val / 18) + (y 1).val, row_lt t (y 1)⟩ := by
    refine Fin.ext ?_
    blk_simp [idx8 t]
    simp [idx8 t]
    omega
  have hy : (y : S512x512.Idx) = ix2 (y 0) (y 1) := funext fun a => by fin_cases a <;> rfl
  refine ((congrArg (outAt m c t) hy).trans (outAt_at m c t (y 0) (y 1))).trans ?_
  exact (congrArg₂ (kOut m c) e0 e1).symm

/-- The operation after the region reshapes the kernel's array into the result. -/
theorem tail_of (W : Valuation τ sig (Elt Ideal)) (a : Fin 24) (b : Fin 384) (l : Fin 10240) :
    (StableHlo.after (List.flatten [hostOps1 (F := Ideal)]) W (Proc.devRef .tc main_v8) : Vec Ideal S24x384x10240 .i8) (ix3 a b l)
      = (W (Proc.devRef .tc main_v7) : Vec Ideal S9216x10240 .i8) (ix2 ⟨a.val * 384 + b.val, by omega⟩ l) := by
  simp only [List.flatten_cons, List.flatten_nil, List.append_nil]
  after_results
  pointwise

/-- What the kernel returns, at an index. -/
theorem tail_at (a : Fin 24) (b : Fin 384) (l : Fin 10240) :
    (Pipeline.afterTail₀ cfgs (dats m) 0 (V0 m) [hostOps1] c main_v8 : Vec Ideal S24x384x10240 .i8) (ix3 a b l)
      = kOut m c ⟨a.val * 384 + b.val, by omega⟩ l :=
  (tail_of _ a b l).trans (congrFun ((Pipeline.withArrays_arr (cfgs 0).spec (by decide) c (V0 m c) (fun w => (dats m 0 c).arrAt w (cfgs 0).N) 8).trans (arr_eq m c)) _)

/-! ## The operands the region finds, as launched -/

theorem xr_at (R : Fin 9216) (k : Fin 2560) :
    xr m c R k = m ((c.tc : Thread nD τ).loc main_arg0) (ix3 ⟨R.val / 384, by omega⟩ ⟨R.val % 384, by omega⟩ k) := by
  unfold xr V V0; simp only [List.flatten_cons, List.flatten_nil, List.append_nil]; after_results; pointwise
theorem za_at : V m c main_v0 (ix1 0) = m ((c.tc : Thread nD τ).loc main_arg1) ix0 := by
  unfold V V0; simp only [List.flatten_cons, List.flatten_nil, List.append_nil]; after_results; pointwise
theorem zc_at : V m c main_v1 (ix1 0) = m ((c.tc : Thread nD τ).loc main_arg7) ix0 := by
  unfold V V0; simp only [List.flatten_cons, List.flatten_nil, List.append_nil]; after_results; pointwise
theorem zb_at (L : Fin 10240) : V m c main_v3 (ix2 0 L) = m ((c.tc : Thread nD τ).loc main_arg3) (ix1 L) := by
  unfold V V0; simp only [List.flatten_cons, List.flatten_nil, List.append_nil]; after_results; pointwise
theorem bias_at (L : Fin 10240) : V m c main_v4 (ix2 0 L) = m ((c.tc : Thread nD τ).loc main_arg4) (ix1 L) := by
  unfold V V0; simp only [List.flatten_cons, List.flatten_nil, List.append_nil]; after_results; pointwise
theorem mul_at (L : Fin 10240) : V m c main_v5 (ix2 0 L) = m ((c.tc : Thread nD τ).loc main_arg5) (ix1 L) := by
  unfold V V0; simp only [List.flatten_cons, List.flatten_nil, List.append_nil]; after_results; pointwise
theorem shift_at (L : Fin 10240) : V m c main_v6 (ix2 0 L) = m ((c.tc : Thread nD τ).loc main_arg6) (ix1 L) := by
  unfold V V0; simp only [List.flatten_cons, List.flatten_nil, List.append_nil]; after_results; pointwise

/-- The result at an index, of the launched arguments. -/
theorem result_at (a : Fin 24) (b : Fin 384) (l : Fin 10240) :
    (Pipeline.afterTail₀ cfgs (dats m) 0 (V0 m) [hostOps1] c main_v8 : Vec Ideal S24x384x10240 .i8) (ix3 a b l)
      = reqR (BitVec.ofInt 32 (accZ
            (fun k => m ((c.tc : Thread nD τ).loc main_arg0) (ix3 ⟨(a.val * 384 + b.val) / 384, by omega⟩ ⟨(a.val * 384 + b.val) % 384, by omega⟩ k))
            (fun k => m ((c.tc : Thread nD τ).loc main_arg2) (ix2 l k)) (m ((c.tc : Thread nD τ).loc main_arg1) ix0)
            (m ((c.tc : Thread nD τ).loc main_arg3) (ix1 l)) (m ((c.tc : Thread nD τ).loc main_arg4) (ix1 l))))
          (m ((c.tc : Thread nD τ).loc main_arg5) (ix1 l)) (m ((c.tc : Thread nD τ).loc main_arg6) (ix1 l)) (m ((c.tc : Thread nD τ).loc main_arg7) ix0) := by
  rw [tail_at, kOut, za_at, zc_at, zb_at, bias_at, mul_at, shift_at, V_main_arg2, funext (xr_at m c _)]

end Cert.Proof.KV
end
-- ==== Proof.RefValue.lean ====
module

public import proofs.«01_k».proof.Proof.Acc
public import proofs.«01_k».proof.Proof.Gen.ReferenceIdeal
public import proofs.«01_k».proof.Proof.Gen.ReferenceIdeal.Run
public import Idealize.ShloMosaic.Lib.Pointwise

/-! What the reference returns at an index: the accumulator of that row and column, requantized by `reqR`. -/

@[expose] public section
namespace Cert.Proof.RV
open Cert.ReferenceIdeal Cert.ReferenceIdeal.Gen Cert.ReferenceIdeal.Value Cert.Proof.Rq
open Idealize.ShloMosaic Idealize.ShloMosaic.TcCoe Idealize.ShloMosaic.Tactic Idealize.ShloMosaic.StableHlo
set_option maxRecDepth 8192
set_option maxHeartbeats 1000000
variable (V0 : Valuation τ sig (Elt Ideal)) (r : Fin 9216) (l : Fin 10240)

/-- A row of the activations, the two leading axes flattened. -/
def xRow (k : Fin 2560) : BitVec 8 := V0 (Proc.devRef .tc main_arg0) (ix3 ⟨r.val / 384, by omega⟩ ⟨r.val % 384, by omega⟩ k)

/-- A row of the weights. -/
def wRow (k : Fin 2560) : BitVec 8 := V0 (Proc.devRef .tc main_arg2) (ix2 l k)

/-- The accumulator's word at a row and a column. -/
def acc : BitVec 32 :=
  BitVec.ofInt 32 (accZ (xRow V0 r) (wRow V0 l) (V0 (Proc.devRef .tc main_arg1) ix0) (V0 (Proc.devRef .tc main_arg3) (ix1 l)) (V0 (Proc.devRef .tc main_arg4) (ix1 l)))

/-- The multiplier of a column. -/
def mul : BitVec 32 := V0 (Proc.devRef .tc main_arg5) (ix1 l)
/-- The shift of a column. -/
def shift : BitVec 32 := V0 (Proc.devRef .tc main_arg6) (ix1 l)

/-- A row of the reshaped activations is a row of the activations. -/
theorem v0_at (k : Fin 2560) : res_main_v0 V0 (ix2 r k) = xRow V0 r k := by
  simp only [res_main_v0, xRow]
  pointwise

/-- The accumulator's array at an index. -/
theorem v28_at : res_main_v28 V0 (ix2 r l) = acc V0 r l := by
  simp only [res_main_v28]
  pointwise
  have hx : Finset.fold IntOp.addi 0#32 (fun x => BitVec.setWidth 32 (res_main_v0 V0 x)) {i | reducesTo_S9216x2560_S9216_d1.drop i = ix1 r}
      = Finset.fold IntOp.addi 0#32 (fun k => BitVec.setWidth 32 (xRow V0 r k)) Finset.univ :=
    (Shape.ReducesTo.fold_fiber_r2_a1 reducesTo_S9216x2560_S9216_d1 _ _ _ _).trans
      (congrArg (fun f => Finset.fold IntOp.addi 0#32 f Finset.univ) (funext fun k => congrArg (BitVec.setWidth 32) (v0_at V0 r k)))
  have hw : Finset.fold IntOp.addi 0#32 (fun x => BitVec.setWidth 32 (V0 (Proc.devRef .tc main_arg2) x)) {i | reducesTo_S10240x2560_S10240_d1.drop i = ix1 l}
      = Finset.fold IntOp.addi 0#32 (fun k => BitVec.setWidth 32 (wRow V0 l k)) Finset.univ :=
    Shape.ReducesTo.fold_fiber_r2_a1 reducesTo_S10240x2560_S10240_d1 _ _ _ _
  simp only [v0_at]
  rw [acc, ← accR_eq, ← hx, ← hw]
  rfl

theorem v30_at : res_main_v30 V0 (ix2 r l) = neg (acc V0 r l) := by
  simp only [res_main_v30]; pointwise; rw [v28_at]; rfl

/-- The magnitudes' array. -/
theorem v32_eq : res_main_v32 V0 = absi (res_main_v28 V0 : (⟨S9216x10240, .i32⟩ : BufTy).Contents (Elt Ideal)) := by
  unfold res_main_v32
  generalize res_main_v28 V0 = v
  exact id.eq_1 _

theorem absi_at (v : IVec S9216x10240 32) (i : S9216x10240.Idx) (x : BitVec 32) (h : v i = x) : absi v i = IntOp.absi x := by
  rw [← h]; rfl

theorem v32_at : res_main_v32 V0 (ix2 r l) = IntOp.absi (acc V0 r l) :=
  (congrFun (v32_eq V0) (ix2 r l)).trans (absi_at (res_main_v28 V0) (ix2 r l) _ (v28_at V0 r l))

theorem v35_at : res_main_v35 V0 (ix1 l) = IntOp.shrui .vector (mul V0 l) 16#32 := by
  simp only [res_main_v35, res_main_v33]; pointwise [id]; rfl

theorem v37_at : res_main_v37 V0 (ix1 l) = IntOp.andi (mul V0 l) 65535#32 := by
  simp only [res_main_v37, res_main_v33]; pointwise [id]; rfl

theorem v40_at : res_main_v40 V0 (ix2 r l) = IntOp.shrui .vector (IntOp.absi (acc V0 r l)) 16#32 := by
  simp only [res_main_v40]; pointwise; rw [v32_at, shrui_host]

theorem v42_at : res_main_v42 V0 (ix2 r l) = IntOp.andi (IntOp.absi (acc V0 r l)) 65535#32 := by
  simp only [res_main_v42]; pointwise; rw [v32_at]

theorem v45_at : res_main_v45 V0 (ix2 r l) = loP (IntOp.absi (acc V0 r l)) (mul V0 l) := by
  simp only [res_main_v45]; pointwise; rw [v42_at, v37_at]; rfl

theorem v52_at : res_main_v52 V0 (ix2 r l) = midP (IntOp.absi (acc V0 r l)) (mul V0 l) := by
  simp only [res_main_v52]; pointwise; rw [v40_at, v42_at, v37_at, v35_at]; rfl

theorem v60_at : res_main_v60 V0 (ix2 r l) = tP (IntOp.absi (acc V0 r l)) (mul V0 l) := by
  simp only [res_main_v60]; pointwise; rw [v45_at, v52_at, shrui_host]; rfl

theorem v67_at : res_main_v67 V0 (ix2 r l) = lowP (IntOp.absi (acc V0 r l)) (mul V0 l) := by
  simp only [res_main_v67]; pointwise; rw [v60_at, v45_at, shli_host]; rfl

theorem v74_at : res_main_v74 V0 (ix2 r l) = IntOp.addi (lowP (IntOp.absi (acc V0 r l)) (mul V0 l)) (rnd (neg (acc V0 r l))) := by
  simp only [res_main_v74]; pointwise; rw [v67_at, v30_at]; rfl

theorem v85_at : res_main_v85 V0 (ix2 r l)
    = quotR (neg (acc V0 r l)) (lowP (IntOp.absi (acc V0 r l)) (mul V0 l)) (hiP (IntOp.absi (acc V0 r l)) (mul V0 l)) := by
  simp only [res_main_v85, res_main_v83]
  pointwise [id]
  rw [v30_at, v40_at, v35_at, v52_at, v60_at, v74_at, v67_at, shrui_host, shrui_host, shrui_host, shli_host]
  rfl

theorem v86_at : res_main_v86 V0 (ix2 0 l) = shift V0 l := by
  simp only [res_main_v86]; pointwise; rfl

theorem v90_at : res_main_v90 V0 (ix2 0 l) = maskR (shift V0 l) := by
  simp only [res_main_v90]; pointwise; rw [v86_at]; rfl

/-- What the reference returns at a batch, a row and a column: the accumulator requantized. -/
theorem out_at (m : (ℓ : Loc nD τ sig) → Buf (Elt Ideal) ℓ) (c : Dev nD) (a : Fin 24) (b : Fin 384) (l : Fin 10240) :
    shapeCast _ (trunci 8 (minsi (broadcastInDim S9216x10240 ![] bcast_S_S9216x10240 (id (constantI S_ 32 255#32))) (maxsi (broadcastInDim S9216x10240 ![] bcast_S_S9216x10240 (id (constantI S_ 32 0#32))) (addi (addi (Host.shrsi (res_main_v85 (launchContents m c)) (broadcastInDim S9216x10240 ![0, 1] bcast_S1x10240_S9216x10240_0_1 (res_main_v86 (launchContents m c)))) (extui 32 (cmpi .sgt (andi (res_main_v85 (launchContents m c)) (broadcastInDim S9216x10240 ![0, 1] bcast_S1x10240_S9216x10240_0_1 (res_main_v90 (launchContents m c)))) (addi (broadcastInDim S9216x10240 ![0, 1] bcast_S1x10240_S9216x10240_0_1 (Host.shrsi (res_main_v90 (launchContents m c)) (broadcastInDim S1x10240 ![] bcast_S_S1x10240 (constantI S_ 32 1#32)))) (extui 32 (cmpi .slt (res_main_v85 (launchContents m c)) (broadcastInDim S9216x10240 ![] bcast_S_S9216x10240 (constantI S_ 32 0#32))) natLt_1_32))) natLt_1_32)) (broadcastInDim S9216x10240 ![] bcast_S_S9216x10240 ((launchContents m c) (Proc.devRef .tc main_arg7)))))) natLt_8_32) shapeCasts_S9216x10240_S24x384x10240 (ix3 a b l)
      = reqR (acc (launchContents m c) ⟨a.val * 384 + b.val, by omega⟩ l) (mul (launchContents m c) l) (shift (launchContents m c) l)
          (launchContents m c (Proc.devRef .tc main_arg7) ix0) := by
  generalize launchContents m c = V
  pointwise [id]
  rw [v85_at, v86_at, v90_at, shrsi_host, shrsi_host]
  rfl
end Cert.Proof.RV
end
-- ==== Proof.Algebraic.lean ====
module

public import proofs.«01_k».proof.Defs
public import proofs.«01_k».proof.Proof.Value
public import proofs.«01_k».proof.Proof.RefValue

/-! The value claim: from equal arguments, the kernel and the reference return the same array. -/

@[expose] public section
namespace Cert.Proof
open Idealize.ShloMosaic Idealize.ShloMosaic.TcCoe Idealize.ShloMosaic.Tactic Idealize.SL.Sem
set_option maxRecDepth 8192
set_option maxHeartbeats 1000000

/-- The kernel's run: it ends with its result array as computed and its arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD, r.2.mem ((c.tc : Thread Cert.KernelIdeal.nD Cert.KernelIdeal.τ).loc Cert.KernelIdeal.main_v8)
        = Pipeline.afterTail₀ Cert.KernelIdeal.cfgs (KI.dats m) 0 (Cert.KernelIdeal.Gen.V0 m) [Cert.KernelIdeal.Gen.hostOps1] c Cert.KernelIdeal.main_v8)) :=
  (θ_run _ _ _).mono (fun _ h c => (h.1 c).2 _ (Pipeline.mem_restRefs_of Cert.KernelIdeal.main_v8 (by decide) (by decide))) (KI.run_main m g)

/-- From equal arguments the kernel and the reference both run, return equal arrays and leave their arguments unchanged. -/
theorem algebraic : Cert.algebraic_KernelIdeal_ReferenceIdeal := by
  intro m g m' g' _ hag
  refine ⟨fun c => Pipeline.afterTail₀ Cert.KernelIdeal.cfgs (KI.dats m) 0 (Cert.KernelIdeal.Gen.V0 m) [Cert.KernelIdeal.Gen.hostOps1] c Cert.KernelIdeal.main_v8,
    (θ_run _ _ _).mono (fun _ h c => ⟨h.1 c, h.2.1 c⟩) (θ_run_and (kernel_run m g) (KI.frame m g)),
    (θ_run _ _ _).mono (fun _ h c => ⟨(h c).1.trans ?_, (h c).2⟩) (Cert.ReferenceIdeal.Value.run (F := Ideal) m' g')⟩
  obtain ⟨h0, h1, h2, h3, h4, h5, h6, h7⟩ := hag c
  refine funext fun (z : Cert.ReferenceIdeal.S24x384x10240.Idx) => ?_
  obtain ⟨a, b, l, rfl⟩ : ∃ (a : Fin 24) (b : Fin 384) (l : Fin 10240), z = ix3 a b l := ⟨z 0, z 1, z 2, funext fun a => by fin_cases a <;> rfl⟩
  refine (RV.out_at m' c a b l).trans (Eq.trans ?_ (KV.result_at m c a b l).symm)
  rw [← h0, ← h1, ← h2, ← h3, ← h4, ← h5, ← h6, ← h7]
  rfl

end Cert.Proof
end
-- ==== Proof.lean ====
module

public import proofs.«01_k».proof.Defs
public import proofs.«01_k».proof.Proof.KernelRun
public import proofs.«01_k».proof.Proof.KernelIdealRun
public import proofs.«01_k».proof.Proof.Algebraic
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference terminates, leaves its arguments unchanged, and declares no semaphore. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => KB.frame m ρ,
  fun m ρ _ => KI.frame m ρ,
  frame_r,
  trivial,
  algebraic⟩

end Cert.Proof

end
